-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![16384, 512]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S512x1 : Shape := ⟨2, ![512, 1]⟩
abbrev S4096x512 : Shape := ⟨2, ![4096, 512]⟩
abbrev S_ : Shape := ⟨0, ![]⟩

class Facts : Prop where
  bcast_S_S512x1 : S_.BroadcastsInDim S512x1 (![] : Fin 0 → Fin S512x1.rank)

variable [Facts]

def fn {F : FTy → Type} [FloatOps F] (main_arg0 : IVec S512x1 32) (main_arg1 : FVec F S4096x512 .bf16) : IVec S512x1 1 :=
  let main_c : IVec S_ 32 := constantI S_ 32 0#32
  let main_v0 : IVec S512x1 32 := broadcastInDim S512x1 ![] bcast_S_S512x1 main_c
  let main_v1 : IVec S512x1 1 := cmpi .sge main_arg0 main_v0
  let main_c_0 : IVec S_ 32 := constantI S_ 32 16384#32
  let main_v2 : IVec S512x1 32 := broadcastInDim S512x1 ![] bcast_S_S512x1 main_c_0
  let main_v3 : IVec S512x1 1 := cmpi .slt main_arg0 main_v2
  let main_v4 : IVec S512x1 1 := andi main_v1 main_v3
  main_v4
-- ==== Pre_ids_in_range_ReferenceIdeal.lean ====
abbrev S512x1 : Shape := ⟨2, ![512, 1]⟩
abbrev S16384x512 : Shape := ⟨2, ![16384, 512]⟩
abbrev S_ : Shape := ⟨0, ![]⟩

class Facts : Prop where
  bcast_S_S512x1 : S_.BroadcastsInDim S512x1 (![] : Fin 0 → Fin S512x1.rank)

variable [Facts]

def fn {F : FTy → Type} [FloatOps F] (main_arg0 : IVec S512x1 32) (main_arg1 : FVec F S16384x512 .bf16) : IVec S512x1 1 :=
  let main_c : IVec S_ 32 := constantI S_ 32 0#32
  let main_v0 : IVec S512x1 32 := broadcastInDim S512x1 ![] bcast_S_S512x1 main_c
  let main_v1 : IVec S512x1 1 := cmpi .sge main_arg0 main_v0
  let main_c_0 : IVec S_ 32 := constantI S_ 32 16384#32
  let main_v2 : IVec S512x1 32 := broadcastInDim S512x1 ![] bcast_S_S512x1 main_c_0
  let main_v3 : IVec S512x1 1 := cmpi .slt main_arg0 main_v2
  let main_v4 : IVec S512x1 1 := andi main_v1 main_v3
  main_v4
-- ==== Kernel.lean ====
abbrev S512x1 : Shape := ⟨2, ![512, 1]⟩
abbrev S4096x512 : Shape := ⟨2, ![4096, 512]⟩
abbrev S512x512 : Shape := ⟨2, ![512, 512]⟩
abbrev S128x512 : Shape := ⟨2, ![128, 512]⟩
abbrev S3x128x512 : Shape := ⟨3, ![3, 128, 512]⟩
abbrev S3 : Shape := ⟨1, ![3]⟩
abbrev S_ : Shape := ⟨0, ![]⟩
abbrev S128x1 : Shape := ⟨2, ![128, 1]⟩
abbrev S128x4096 : Shape := ⟨2, ![128, 4096]⟩
abbrev S1 : Shape := ⟨1, ![1]⟩
abbrev S1x128x512 : Shape := ⟨3, ![1, 128, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x1, .i32⟩
  | .hbm, ⟨1, _⟩ => ⟨S4096x512, .bf16⟩
  | .hbm, ⟨2, _⟩ => ⟨S512x512, .f32⟩
  | .local _ .vmem, ⟨0, _⟩ => ⟨S512x1, .i32⟩
  | .local _ .vmem, ⟨1, _⟩ => ⟨S4096x512, .bf16⟩
  | .local _ .vmem, ⟨2, _⟩ => ⟨S512x512, .f32⟩
  | .local _ .vmem, ⟨3, _⟩ => ⟨S128x512, .bf16⟩
  | .local _ .vmem, ⟨4, _⟩ => ⟨S3x128x512, .bf16⟩
  | .local _ .vmem, ⟨5, _⟩ => ⟨S128x512, .bf16⟩
  | .local _ .vmem, ⟨6, _⟩ => ⟨S3x128x512, .bf16⟩
  | _, _ => ⟨S512x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v27 : BitVec 32 := Scalar.muli v2 c8_i32_14
  let v28 : BitVec 32 := Scalar.addi c0_i32_15 v27
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v29 : BitVec 32 := Scalar.muli v5 c4_i32_16
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.addi v8 c1_i32_7
  let c4_i32_8 : BitVec 32 := 4#32
  let c0_i32 : BitVec 32 := 0#32
  let v17 : BitVec 1 := Scalar.cmpi .eq c4_i32_8 c0_i32
  let c1_i32_9 : BitVec 32 := 1#32
  let v18 : BitVec 32 := Scalar.select v17 c1_i32_9 c4_i32_8
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_17 : BitVec 32 := 1#32
  let v31 : BitVec 32 := Scalar.muli v26 c1_i32_17
  let v32 : BitVec 32 := Scalar.addi v30 v31
  v32.toNat
def k0_dev2 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v44 : BitVec 32 := Scalar.muli v2 c8_i32_26
  let v45 : BitVec 32 := Scalar.addi c0_i32_27 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_28 : BitVec 32 := 4#32
  let v46 : BitVec 32 := Scalar.muli v5 c4_i32_28
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v33 : BitVec 32 := Scalar.addi v8 c2_i32_18
  let c4_i32_19 : BitVec 32 := 4#32
  let c0_i32_20 : BitVec 32 := 0#32
  let v34 : BitVec 1 := Scalar.cmpi .eq c4_i32_19 c0_i32_20
  let c1_i32_21 : BitVec 32 := 1#32
  let v35 : BitVec 32 := Scalar.select v34 c1_i32_21 c4_i32_19
  let v36 : BitVec 32 := Scalar.remsi v33 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c1_i32_29 : BitVec 32 := 1#32
  let v48 : BitVec 32 := Scalar.muli v43 c1_i32_29
  let v49 : BitVec 32 := Scalar.addi v47 v48
  v49.toNat
def k0_dev3 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v61 : BitVec 32 := Scalar.muli v2 c8_i32_37
  let v62 : BitVec 32 := Scalar.addi c0_i32_38 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v63 : BitVec 32 := Scalar.muli v5 c4_i32_39
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v50 : BitVec 32 := Scalar.addi v8 c3_i32
  let c4_i32_30 : BitVec 32 := 4#32
  let c0_i32_31 : BitVec 32 := 0#32
  let v51 : BitVec 1 := Scalar.cmpi .eq c4_i32_30 c0_i32_31
  let c1_i32_32 : BitVec 32 := 1#32
  let v52 : BitVec 32 := Scalar.select v51 c1_i32_32 c4_i32_30
  let v53 : BitVec 32 := Scalar.remsi v50 v52
  let c0_i32_34 : BitVec 32 := 0#32
  let v55 : BitVec 1 := Scalar.cmpi .slt v53 c0_i32_34
  let c0_i32_35 : BitVec 32 := 0#32
  let v56 : BitVec 1 := Scalar.cmpi .slt v52 c0_i32_35
  let v57 : BitVec 1 := Scalar.xori v55 v56
  let c0_i32_33 : BitVec 32 := 0#32
  let v54 : BitVec 1 := Scalar.cmpi .ne v53 c0_i32_33
  let v58 : BitVec 1 := Scalar.andi v57 v54
  let v59 : BitVec 32 := Scalar.addi v53 v52
  let v60 : BitVec 32 := Scalar.select v58 v59 v53
  let c1_i32_40 : BitVec 32 := 1#32
  let v65 : BitVec 32 := Scalar.muli v60 c1_i32_40
  let v66 : BitVec 32 := Scalar.addi v64 v65
  v66.toNat
def k0_dev4 (d0 : Dev nD) : Nat :=
  let c0_i32_43 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_42 : BitVec 32 := 8#32
  let v67 : BitVec 32 := Scalar.muli v11 c8_i32_42
  let v68 : BitVec 32 := Scalar.addi c0_i32_43 v67
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v69 : BitVec 32 := Scalar.muli v5 c4_i32_44
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v71 : BitVec 32 := Scalar.muli v8 c1_i32_45
  let v72 : BitVec 32 := Scalar.addi v70 v71
  v72.toNat
def k0_dev5 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v73 : BitVec 32 := Scalar.muli v2 c8_i32_47
  let v74 : BitVec 32 := Scalar.addi c0_i32_48 v73
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_49 : BitVec 32 := 4#32
  let v75 : BitVec 32 := Scalar.muli v12 c4_i32_49
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v77 : BitVec 32 := Scalar.muli v8 c1_i32_50
  let v78 : BitVec 32 := Scalar.addi v76 v77
  v78.toNat
def k0_dev6 (d0 : Dev nD) : Nat :=
  let c0_i32_53 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_5 v2
  let c8_i32_52 : BitVec 32 := 8#32
  let v79 : BitVec 32 := Scalar.muli v13 c8_i32_52
  let v80 : BitVec 32 := Scalar.addi c0_i32_53 v79
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_54 : BitVec 32 := 4#32
  let v81 : BitVec 32 := Scalar.muli v14 c4_i32_54
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v83 : BitVec 32 := Scalar.muli v8 c1_i32_55
  let v84 : BitVec 32 := Scalar.addi v82 v83
  v84.toNat
def k0_off1 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32 : BitVec 32 := 128#32
  let v85 : BitVec 32 := Scalar.muli v10 c128_i32
  let v86 : Index := Scalar.indexCast v85
  let c0 : Index := 0#32
  ![v86.toNat, 0]
def k0_dev7 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v116 : BitVec 32 := Scalar.muli v2 c8_i32_70
  let v117 : BitVec 32 := Scalar.addi c0_i32_71 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v118 : BitVec 32 := Scalar.muli v5 c4_i32_72
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v105 : BitVec 32 := Scalar.addi v8 c1_i32_60
  let c4_i32_61 : BitVec 32 := 4#32
  let c0_i32_62 : BitVec 32 := 0#32
  let v106 : BitVec 1 := Scalar.cmpi .eq c4_i32_61 c0_i32_62
  let c1_i32_63 : BitVec 32 := 1#32
  let v107 : BitVec 32 := Scalar.select v106 c1_i32_63 c4_i32_61
  let v108 : BitVec 32 := Scalar.remsi v105 v107
  let c0_i32_65 : BitVec 32 := 0#32
  let v110 : BitVec 1 := Scalar.cmpi .slt v108 c0_i32_65
  let c0_i32_66 : BitVec 32 := 0#32
  let v111 : BitVec 1 := Scalar.cmpi .slt v107 c0_i32_66
  let v112 : BitVec 1 := Scalar.xori v110 v111
  let c0_i32_64 : BitVec 32 := 0#32
  let v109 : BitVec 1 := Scalar.cmpi .ne v108 c0_i32_64
  let v113 : BitVec 1 := Scalar.andi v112 v109
  let v114 : BitVec 32 := Scalar.addi v108 v107
  let v115 : BitVec 32 := Scalar.select v113 v114 v108
  let c1_i32_73 : BitVec 32 := 1#32
  let v120 : BitVec 32 := Scalar.muli v115 c1_i32_73
  let v121 : BitVec 32 := Scalar.addi v119 v120
  v121.toNat
def k0_dev8 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v139 : BitVec 32 := Scalar.muli v2 c8_i32_86
  let v140 : BitVec 32 := Scalar.addi c0_i32_87 v139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v141 : BitVec 32 := Scalar.muli v5 c4_i32_88
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_76 : BitVec 32 := 2#32
  let v128 : BitVec 32 := Scalar.addi v8 c2_i32_76
  let c4_i32_77 : BitVec 32 := 4#32
  let c0_i32_78 : BitVec 32 := 0#32
  let v129 : BitVec 1 := Scalar.cmpi .eq c4_i32_77 c0_i32_78
  let c1_i32_79 : BitVec 32 := 1#32
  let v130 : BitVec 32 := Scalar.select v129 c1_i32_79 c4_i32_77
  let v131 : BitVec 32 := Scalar.remsi v128 v130
  let c0_i32_81 : BitVec 32 := 0#32
  let v133 : BitVec 1 := Scalar.cmpi .slt v131 c0_i32_81
  let c0_i32_82 : BitVec 32 := 0#32
  let v134 : BitVec 1 := Scalar.cmpi .slt v130 c0_i32_82
  let v135 : BitVec 1 := Scalar.xori v133 v134
  let c0_i32_80 : BitVec 32 := 0#32
  let v132 : BitVec 1 := Scalar.cmpi .ne v131 c0_i32_80
  let v136 : BitVec 1 := Scalar.andi v135 v132
  let v137 : BitVec 32 := Scalar.addi v131 v130
  let v138 : BitVec 32 := Scalar.select v136 v137 v131
  let c1_i32_89 : BitVec 32 := 1#32
  let v143 : BitVec 32 := Scalar.muli v138 c1_i32_89
  let v144 : BitVec 32 := Scalar.addi v142 v143
  v144.toNat
def k0_dev9 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v162 : BitVec 32 := Scalar.muli v2 c8_i32_102
  let v163 : BitVec 32 := Scalar.addi c0_i32_103 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_104 : BitVec 32 := 4#32
  let v164 : BitVec 32 := Scalar.muli v5 c4_i32_104
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_92 : BitVec 32 := 3#32
  let v151 : BitVec 32 := Scalar.addi v8 c3_i32_92
  let c4_i32_93 : BitVec 32 := 4#32
  let c0_i32_94 : BitVec 32 := 0#32
  let v152 : BitVec 1 := Scalar.cmpi .eq c4_i32_93 c0_i32_94
  let c1_i32_95 : BitVec 32 := 1#32
  let v153 : BitVec 32 := Scalar.select v152 c1_i32_95 c4_i32_93
  let v154 : BitVec 32 := Scalar.remsi v151 v153
  let c0_i32_97 : BitVec 32 := 0#32
  let v156 : BitVec 1 := Scalar.cmpi .slt v154 c0_i32_97
  let c0_i32_98 : BitVec 32 := 0#32
  let v157 : BitVec 1 := Scalar.cmpi .slt v153 c0_i32_98
  let v158 : BitVec 1 := Scalar.xori v156 v157
  let c0_i32_96 : BitVec 32 := 0#32
  let v155 : BitVec 1 := Scalar.cmpi .ne v154 c0_i32_96
  let v159 : BitVec 1 := Scalar.andi v158 v155
  let v160 : BitVec 32 := Scalar.addi v154 v153
  let v161 : BitVec 32 := Scalar.select v159 v160 v154
  let c1_i32_105 : BitVec 32 := 1#32
  let v166 : BitVec 32 := Scalar.muli v161 c1_i32_105
  let v167 : BitVec 32 := Scalar.addi v165 v166
  v167.toNat
def k0_off2 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_144 : BitVec 32 := 128#32
  let v220 : BitVec 32 := Scalar.muli v10 c128_i32_144
  let v221 : Index := Scalar.indexCast v220
  let c0_145 : Index := 0#32
  ![v221.toNat, 0]
def k0_dev10 (d0 : Dev nD) : Nat :=
  let c0_i32_150 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_149 : BitVec 32 := 8#32
  let v223 : BitVec 32 := Scalar.muli v11 c8_i32_149
  let v224 : BitVec 32 := Scalar.addi c0_i32_150 v223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v225 : BitVec 32 := Scalar.muli v5 c4_i32_151
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v227 : BitVec 32 := Scalar.muli v8 c1_i32_152
  let v228 : BitVec 32 := Scalar.addi v226 v227
  v228.toNat
def k0_dev11 (d0 : Dev nD) : Nat :=
  let c0_i32_159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_158 : BitVec 32 := 8#32
  let v235 : BitVec 32 := Scalar.muli v2 c8_i32_158
  let v236 : BitVec 32 := Scalar.addi c0_i32_159 v235
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_160 : BitVec 32 := 4#32
  let v237 : BitVec 32 := Scalar.muli v12 c4_i32_160
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v239 : BitVec 32 := Scalar.muli v8 c1_i32_161
  let v240 : BitVec 32 := Scalar.addi v238 v239
  v240.toNat
def k0_dev12 (d0 : Dev nD) : Nat :=
  let c0_i32_168 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_5 v2
  let c8_i32_167 : BitVec 32 := 8#32
  let v247 : BitVec 32 := Scalar.muli v13 c8_i32_167
  let v248 : BitVec 32 := Scalar.addi c0_i32_168 v247
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_169 : BitVec 32 := 4#32
  let v249 : BitVec 32 := Scalar.muli v14 c4_i32_169
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v251 : BitVec 32 := Scalar.muli v8 c1_i32_170
  let v252 : BitVec 32 := Scalar.addi v250 v251
  v252.toNat
def k0_off3 (d0 : Dev nD) : Fin 2 → Nat :=
  let c2_i32_173 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v259 : BitVec 32 := Scalar.muli c2_i32_173 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v260 : BitVec 32 := Scalar.addi v259 v5
  let c128_i32_186 : BitVec 32 := 128#32
  let v274 : BitVec 32 := Scalar.muli v260 c128_i32_186
  let v275 : Index := Scalar.indexCast v274
  let c0_187 : Index := 0#32
  ![v275.toNat, 0]
def k0_off4 (d0 : Dev nD) : Fin 2 → Nat :=
  let c2_i32_188 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v277 : BitVec 32 := Scalar.muli c2_i32_188 v2
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let v278 : BitVec 32 := Scalar.addi v277 v12
  let c128_i32_201 : BitVec 32 := 128#32
  let v292 : BitVec 32 := Scalar.muli v278 c128_i32_201
  let v293 : Index := Scalar.indexCast v292
  let c0_202 : Index := 0#32
  ![v293.toNat, 0]
def k0_off5 (d0 : Dev nD) : Fin 2 → Nat :=
  let c2_i32_203 : BitVec 32 := 2#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_5 v2
  let v295 : BitVec 32 := Scalar.muli c2_i32_203 v13
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let v296 : BitVec 32 := Scalar.addi v295 v14
  let c128_i32_216 : BitVec 32 := 128#32
  let v310 : BitVec 32 := Scalar.muli v296 c128_i32_216
  let v311 : Index := Scalar.indexCast v310
  let c0_217 : Index := 0#32
  ![v311.toNat, 0]
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1 : Shape := ⟨2, ![512, 1]⟩
abbrev S16384x512 : Shape := ⟨2, ![16384, 512]⟩
abbrev S512 : Shape := ⟨1, ![512]⟩
abbrev S_ : Shape := ⟨0, ![]⟩
abbrev S512x512 : Shape := ⟨2, ![512, 512]⟩

abbrev nBuf : Space → Nat
  | .hbm => 13
  | .vmem => 0
  | .smem => 0
  | _ => 0

abbrev bufTy : (tb : Table) → Fin (tcTables nBuf tb) → BufTy
  | .hbm, ⟨0, _⟩ => ⟨S512x1, .i32⟩
  | .hbm, ⟨1, _⟩ => ⟨S16384x512, .bf16⟩
  | .hbm, ⟨2, _⟩ => ⟨S512, .i32⟩
  | .hbm, ⟨3, _⟩ => ⟨S_, .i32⟩
  | .hbm, ⟨4, _⟩ => ⟨S512, .i32⟩
  | .hbm, ⟨5, _⟩ => ⟨S512, .i1⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S512x1, .i32⟩
  | .hbm, ⟨11, _⟩ => ⟨S512x512, .bf16⟩
  | .hbm, ⟨12, _⟩ => ⟨S512x512, .f32⟩
  | _, _ => ⟨S512x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Mesh.lean ====
/- The mesh of sixteen devices (x, y, z) ∈ 2 × 2 × 4: to whom each of a device's six transfers goes, and from whom each
   of its six landing slots is filled. -/
module

public import proofs.«01_k».proof.Proof.Gen.KernelIdeal

@[expose] public section

noncomputable section

namespace Cert.LookupProof

open Cert.KernelIdeal Cert.KernelIdeal.Gen
open Idealize.ShloMosaic

/-- One of a device's six transfers: the axis it goes along (`false`: along z; `true`: inside the x–y plane) and which of
    the three there. -/
abbrev Way : Type := Bool × Fin 3

set_option backward.proofsInPublic true in
/-- The device transfer `w` of device `c` goes to: along z the one `k + 1` further, in the plane the one with x, with y
    or with both flipped. -/
def peer : Way → Dev nD → Dev nD
  | (false, k), c => ⟨4 * (c.val / 4) + (c.val % 4 + k.val + 1) % 4, by have : c.val < 16 := c.isLt; show _ < 16; omega⟩
  | (true, 0), c => ⟨(c.val + 8) % 16, Nat.mod_lt _ (by decide)⟩
  | (true, 1), c => ⟨8 * (c.val / 8) + (c.val % 8 + 4) % 8, by have : c.val < 16 := c.isLt; show _ < 16; omega⟩
  | (true, 2), c => ⟨8 * (1 - c.val / 8) + (c.val % 8 + 4) % 8, by have : c.val < 16 := c.isLt; show _ < 16; omega⟩

/-- The way back: transfer `mate w` undoes transfer `w`. -/
def mate : Way → Way
  | (false, k) => (false, k.rev)
  | (true, k) => (true, k)

theorem mate_mate (w : Way) : mate (mate w) = w := by revert w; decide
theorem peer_mate (w : Way) (c : Dev nD) : peer (mate w) (peer w c) = c := by revert w c; decide
theorem peer_mate' (w : Way) (c : Dev nD) : peer w (peer (mate w) c) = c := by revert w c; decide

/-- Every transfer's addressing is a permutation of the devices. -/
def along (w : Way) : Dev nD ≃ Dev nD := ⟨peer w, peer (mate w), peer_mate w, peer_mate' w⟩

theorem peer_eq_iff (w : Way) (d c : Dev nD) : peer w d = c ↔ d = peer (mate w) c :=
  ⟨fun h => by rw [← h, peer_mate], fun h => by rw [h, peer_mate']⟩

/-! The kernel's `device_id` chains name these devices. -/
theorem dev1_eq (c : Dev nD) : (⟨k0_dev1 c, k0_dev1_lt c⟩ : Dev nD) = peer (false, 0) c := by revert c; decide +kernel
theorem dev2_eq (c : Dev nD) : (⟨k0_dev2 c, k0_dev2_lt c⟩ : Dev nD) = peer (false, 1) c := by revert c; decide +kernel
theorem dev3_eq (c : Dev nD) : (⟨k0_dev3 c, k0_dev3_lt c⟩ : Dev nD) = peer (false, 2) c := by revert c; decide +kernel
theorem dev4_eq (c : Dev nD) : (⟨k0_dev4 c, k0_dev4_lt c⟩ : Dev nD) = peer (true, 0) c := by revert c; decide +kernel
theorem dev5_eq (c : Dev nD) : (⟨k0_dev5 c, k0_dev5_lt c⟩ : Dev nD) = peer (true, 1) c := by revert c; decide +kernel
theorem dev6_eq (c : Dev nD) : (⟨k0_dev6 c, k0_dev6_lt c⟩ : Dev nD) = peer (true, 2) c := by revert c; decide +kernel
theorem dev7_eq (c : Dev nD) : (⟨k0_dev7 c, k0_dev7_lt c⟩ : Dev nD) = peer (false, 0) c := by revert c; decide +kernel
theorem dev8_eq (c : Dev nD) : (⟨k0_dev8 c, k0_dev8_lt c⟩ : Dev nD) = peer (false, 1) c := by revert c; decide +kernel
theorem dev9_eq (c : Dev nD) : (⟨k0_dev9 c, k0_dev9_lt c⟩ : Dev nD) = peer (false, 2) c := by revert c; decide +kernel
theorem dev10_eq (c : Dev nD) : (⟨k0_dev10 c, k0_dev10_lt c⟩ : Dev nD) = peer (true, 0) c := by revert c; decide +kernel
theorem dev11_eq (c : Dev nD) : (⟨k0_dev11 c, k0_dev11_lt c⟩ : Dev nD) = peer (true, 1) c := by revert c; decide +kernel
theorem dev12_eq (c : Dev nD) : (⟨k0_dev12 c, k0_dev12_lt c⟩ : Dev nD) = peer (true, 2) c := by revert c; decide +kernel

/-- The row block (0 … 3) device `c` reduces: `2 x + y`. -/
def rowBlk (c : Dev nD) : Fin 4 := ⟨c.val / 4, by have : c.val < 16 := c.isLt; omega⟩

theorem off1_eq (c : Dev nD) : k0_off1 c = ![128 * (rowBlk c).val, 0] := by revert c; decide +kernel
theorem off2_eq (c : Dev nD) : k0_off2 c = ![128 * (rowBlk c).val, 0] := by revert c; decide +kernel
theorem off3_eq (c : Dev nD) : k0_off3 c = ![128 * (rowBlk (peer (true, 0) c)).val, 0] := by revert c; decide +kernel
theorem off4_eq (c : Dev nD) : k0_off4 c = ![128 * (rowBlk (peer (true, 1) c)).val, 0] := by revert c; decide +kernel
theorem off5_eq (c : Dev nD) : k0_off5 c = ![128 * (rowBlk (peer (true, 2) c)).val, 0] := by revert c; decide +kernel

end Cert.LookupProof

end
-- ==== Proof.Cells.lean ====
/- The buffers and semaphore cells of the kernel, uniformly in the way a transfer goes; what each device sends; and the
   one round of duties on every cell. -/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-! ## The resource algebra: the pipeline library's copy and the exchange's, whose duties are named by ways -/

abbrev UX : Type := URounds (GSem nD τ sig) Way
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The buffers -/

abbrev idsM : Memref sig .tc .vmem S512x1 .i32 := Memref.whole cc0_stg0_0
abbrev tabM : Memref sig .tc .vmem S4096x512 .bf16 := Memref.whole cc0_stg1_0
abbrev outM : Memref sig .tc .vmem S512x512 .f32 := Memref.whole cc0_stg2_0

/-- The buffer a device's transfers along an axis read: its partial rows (along z), its summed rows (in the plane). -/
def srcM : Bool → Memref sig .tc .vmem S128x512 .bf16
  | false => Memref.whole cc0_scratch0
  | true => Memref.whole cc0_scratch2

/-- The buffer of three slots they land in. -/
def landM : Bool → Memref sig .tc .vmem S3x128x512 .bf16
  | false => Memref.whole cc0_scratch1
  | true => Memref.whole cc0_scratch3

def sendA : Bool → DmaSems sig S3
  | false => cc0_scratch4
  | true => cc0_scratch6
def recvA : Bool → DmaSems sig S3
  | false => cc0_scratch5
  | true => cc0_scratch7

theorem slot_inb (k : Fin 3) : ∀ a, (![k.val, 0, 0] : Fin 3 → Nat) a + S1x128x512.size a ≤ S3x128x512.size a := by revert k; decide
theorem sem_inb (k : Fin 3) : ∀ a, (![k.val] : Fin 1 → Nat) a + S1.size a ≤ S3.size a := by revert k; decide

/-- Slot `k`'s rectangle in a buffer of three. -/
abbrev slotR (k : Fin 3) : Rect S3x128x512 := Rect.unit (s := S3x128x512) ![k.val, 0, 0] S1x128x512.size (slot_inb k)

/-- The slot transfer `w` lands in. -/
abbrev slot (w : Way) : Memref sig .tc .vmem S128x512 .bf16 :=
  ((landM w.1).slice (slotR w.2) (fun _ => rfl)).squeeze S128x512 squeezes_S1x128x512_S128x512

abbrev sendS (w : Way) : DmaSems sig S_ := ((sendA w.1).slice (Rect.unit (s := S3) ![w.2.val] S1.size (sem_inb w.2))).squeeze S_ squeezes_S1_S_
abbrev recvS (w : Way) : DmaSems sig S_ := ((recvA w.1).slice (Rect.unit (s := S3) ![w.2.val] S1.size (sem_inb w.2))).squeeze S_ squeezes_S1_S_

/-! ## The cells -/

/-- The runtime's barrier semaphore. -/
abbrev barS : Sem sig := (SemArray.scalar (sig.barrier 0 rfl) : Sems sig S_).sem

/-- The kernel's own semaphores: `(false, w)` is raised when transfer `w` has left, `(true, w)` when one has landed. -/
abbrev Own : Type := Bool × Way
def osem : Own → SemLoc sig
  | (false, w) => .dma (sendS w).sem
  | (true, w) => .dma (recvS w).sem

/-- All of a device's cells: the barrier's (`none`) and its own. -/
abbrev Cell : Type := Option Own
def csem : Cell → SemLoc sig
  | none => .reg barS
  | some o => osem o

theorem osem_injective : Function.Injective osem := by decide +kernel
theorem osem_ne_bar (o : Own) : osem o ≠ .reg barS := by rcases o with ⟨_ | _, w⟩ <;> exact fun h => by cases h
theorem csem_injective : Function.Injective csem := by
  rintro (_ | o) (_ | o') h
  · rfl
  · exact absurd h.symm (osem_ne_bar o')
  · exact absurd h (osem_ne_bar o)
  · exact congrArg some (osem_injective h)

abbrev kcell (ck : Dev nD × Cell) : GSem nD τ sig := ((ck.1 : Thread nD τ), csem ck.2)
abbrev barCell (c : Dev nD) : GSem nD τ sig := kcell (c, none)
abbrev sendCell (w : Way) (c : Dev nD) : GSem nD τ sig := kcell (c, some (false, w))
abbrev recvCell (w : Way) (c : Dev nD) : GSem nD τ sig := kcell (c, some (true, w))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which cell a semaphore is, if one of the exchange's. -/
def whichCell (s : SemLoc sig) : Option Cell :=
  open Classical in if h : ∃ k, csem k = s then some h.choose else none

theorem whichCell_csem (k : Cell) : whichCell (csem k) = some k := by
  have h : ∃ k', csem k' = csem k := ⟨k, rfl⟩
  unfold whichCell; rw [dif_pos h]; exact congrArg some (csem_injective h.choose_spec)

/-- What one transfer's 128 × 512 block counts on its two semaphores. -/
def N : ℕ := (srcM false).view.dmaCredit
theorem N_pos : 0 < N := View.dmaCredit_pos _ (by decide)
theorem credit_src (b : Bool) : (srcM b).view.dmaCredit = N := by cases b <;> rfl
theorem credit_slot (w : Way) : (slot w).view.dmaCredit = N := by rcases w with ⟨_ | _, k⟩ <;> rfl

/-! ## What a device computes and sends -/

/-- The staged blocks of device `c`: all the ids, and its quarter of the table. -/
def idsAt (c : Dev nD) : Vec F S512x1 .i32 := (win0_0.blk (0 : Fin 1)).view.read (Elt F) ((s₀ m ρ).mem ((c : Thread nD τ).loc main_arg0))
def tabAt (c : Dev nD) : Vec F S4096x512 .bf16 := (win0_1.blk (0 : Fin 1)).view.read (Elt F) ((s₀ m ρ).mem ((c : Thread nD τ).loc main_arg1))

/-- The device's z coordinate, as the word the kernel computes it in. -/
def zword (c : Dev nD) : BitVec 32 := Scalar.remsi (Scalar.divsi (Dev.word c) 1#32) 4#32

/-- The ids of the row block device `c` reduces. -/
def blkIds (c : Dev nD) : Vec F S128x1 .i32 :=
  (idsM : Memref sig .tc .vmem S512x1 .i32).view.readAt (Elt F) (Rect.unit (s := S512x1) (k0_off1 c) S128x1.size (k0_off1_inb c)).toLoadRect (idsAt m ρ c)

/-- Its partial rows: the row block's rows found in its own quarter of the table, zero elsewhere; -/
def partF (c : Dev nD) : FVec F S128x512 .f32 := k0_pay1 (zword c) (blkIds m ρ c) (tabAt m ρ c)
/-- the same as it is sent along z. -/
def partB (c : Dev nD) : FVec F S128x512 .bf16 := k0_pay3 (k0_pay2 (zword c) (blkIds m ρ c) (tabAt m ρ c))

/-- A received block added on. -/
def addIn (a : FVec F S128x512 .f32) (b : FVec F S128x512 .bf16) : FVec F S128x512 .f32 := addf a (extf .f32 b bitsLt_bf16_f32)

/-- The row block summed over z: its own partial rows and the three received, in the order of arrival slots. -/
def redF (c : Dev nD) : FVec F S128x512 .f32 :=
  addIn (addIn (addIn (partF m ρ c) (partB m ρ (peer (mate (false, 0)) c))) (partB m ρ (peer (mate (false, 1)) c))) (partB m ρ (peer (mate (false, 2)) c))
/-- The same as it is sent in the plane. -/
def redB (c : Dev nD) : FVec F S128x512 .bf16 := shapeCast S128x512 (truncf .bf16 (redF m ρ c) bitsLt_bf16_f32) shapeCasts_S128x512_S128x512

/-- What device `c` sends along an axis. -/
def sent : Bool → Dev nD → FVec F S128x512 .bf16
  | false, c => partB m ρ c
  | true, c => redB m ρ c

/-! ## Who holds what -/

/-- A share of the source buffer, for the transfer numbered `i` to read (the last stays with the device). -/
def srcPart (b : Bool) (i : Fin (2 ^ 2)) (c : Dev nD) : sProp 𝕄 := owns (c : Thread nD τ) (srcM b) (leaf 2 fullShare i) (sent m ρ b c)
/-- A slot at contents of no concern. -/
def slotFree (w : Way) (c : Dev nD) : sProp 𝕄 := iprop(∃ X, owns (c : Thread nD τ) (slot w) fullShare X)
/-- A slot holding what its sender sent. -/
def slotFull (w : Way) (c : Dev nD) : sProp 𝕄 := owns (c : Thread nD τ) (slot w) fullShare (sent m ρ w.1 (peer (mate w) c))

instance srcPart_storable (b i c) : BI.Storable (upEmb : UEmb _ 𝕄) (srcPart (F := F) m ρ b i c) := by unfold srcPart; infer_instance
omit [FloatOps F] in
instance slotFree_storable (w c) : BI.Storable (upEmb : UEmb _ 𝕄) (slotFree (F := F) w c) := by unfold slotFree; infer_instance
instance slotFull_storable (w c) : BI.Storable (upEmb : UEmb _ 𝕄) (slotFull (F := F) m ρ w c) := by unfold slotFull; infer_instance

/-- Duty `w` of `c`'s barrier cell, paid by the device `c`'s transfer `w` goes to: the slot it lands in, and that its
    receive cell is open. -/
def barPay (w : Way) (c : Dev nD) : sProp 𝕄 := iprop(slotFree w (peer w c) ∗ reached ER (recvCell w (peer w c)) 0)

def cellPay : Cell → Way → Dev nD → sProp 𝕄
  | none, w, c => barPay w c
  | some (false, w), _, c => srcPart m ρ w.1 (Fin.castLE (by decide) w.2) c
  | some (true, w), _, c => slotFull m ρ w c

/-- The one duty of a cell of the kernel's own. -/
abbrev d₀ : Way := (false, 0)

def cellDuties : Cell → Finset Way
  | none => Finset.univ
  | some _ => {d₀}
def cellAmount : Cell → ℕ
  | none => 1
  | some _ => N

/-- The schedule: one round; six unit duties on every barrier cell, one duty of a block's credit on each own cell. -/
def Rd : Rounds.Schedule (GSem nD τ sig) Way 𝕄 where
  duties g r := if r = 0 ∧ g.1.2 = .tc then (match whichCell g.2 with | some k => cellDuties k | none => ∅) else ∅
  unitless _ := False
  amount g _ _ := match whichCell g.2 with | some k => cellAmount k | none => 1
  payload g _ d := match whichCell g.2 with | some k => cellPay m ρ k d g.1.1 | none => iprop(emp)
  amount_pos g _ _ _ := by
    cases whichCell g.2 with
    | none => exact Nat.one_pos
    | some k => cases k with
      | none => exact Nat.one_pos
      | some o => exact N_pos

instance Rd_payload_storable (g : GSem nD τ sig) (r : ℕ) (d : Way) : BI.Storable (upEmb : UEmb _ 𝕄) ((Rd (F := F) m ρ).payload g r d) := by
  show BI.Storable upEmb (match whichCell g.2 with | some k => cellPay m ρ k d g.1.1 | none => iprop(emp))
  cases whichCell g.2 with
  | none => infer_instance
  | some k => rcases k with _ | ⟨_ | _, w⟩ <;> (unfold cellPay; try unfold barPay) <;> infer_instance

theorem duties_cell (ck : Dev nD × Cell) : (Rd (F := F) m ρ).duties (kcell ck) 0 = cellDuties ck.2 := by
  dsimp only [Rd]; rw [if_pos ⟨rfl, rfl⟩, whichCell_csem]
theorem duties_later (g : GSem nD τ sig) : ∀ r, 1 ≤ r → (Rd (F := F) m ρ).duties g r = ∅ :=
  fun r hr => by dsimp only [Rd]; rw [if_neg fun h => by omega]
theorem amount_cell (ck : Dev nD × Cell) (d : Way) : (Rd (F := F) m ρ).amount (kcell ck) 0 d = cellAmount ck.2 := by
  dsimp only [Rd]; rw [whichCell_csem]
theorem payload_cell (ck : Dev nD × Cell) (d : Way) : (Rd (F := F) m ρ).payload (kcell ck) 0 d = cellPay m ρ ck.2 d ck.1 := by
  dsimp only [Rd]; rw [whichCell_csem]

theorem expect_bar (c : Dev nD) : (Rd (F := F) m ρ).expect (barCell c) 0 = 6 := by
  unfold Schedule.expect Schedule.amountOf
  rw [duties_cell, Finset.sum_congr rfl fun d _ => amount_cell m ρ (c, none) d]; rfl
theorem expect_own (c : Dev nD) (o : Own) : (Rd (F := F) m ρ).expect (kcell (c, some o)) 0 = N := by
  unfold Schedule.expect Schedule.amountOf
  rw [duties_cell, Finset.sum_congr rfl fun d _ => amount_cell m ρ (c, some o) d]
  exact Finset.sum_singleton _ _

/-- What the whole round of a cell hands its owner. -/
theorem rest_cell (ck : Dev nD × Cell) : bigSep ((Rd (F := F) m ρ).duties (kcell ck) 0 \ ∅) (fun d => (Rd (F := F) m ρ).payload (kcell ck) 0 d)
    = bigSep (cellDuties ck.2) (fun d => cellPay m ρ ck.2 d ck.1) := by
  rw [Finset.sdiff_empty, duties_cell]
  exact bigSep_congr fun d _ => payload_cell m ρ ck d
theorem rest_bar (c : Dev nD) : bigSep ((Rd (F := F) m ρ).duties (barCell c) 0 \ ∅) (fun d => (Rd (F := F) m ρ).payload (barCell c) 0 d)
    = bigSep Finset.univ (fun w => barPay w c) := rest_cell m ρ (c, none)
theorem rest_own (c : Dev nD) (o : Own) : bigSep ((Rd (F := F) m ρ).duties (kcell (c, some o)) 0 \ ∅) (fun d => (Rd (F := F) m ρ).payload (kcell (c, some o)) 0 d)
    = cellPay m ρ (some o) d₀ c := by
  rw [rest_cell]; exact bigSep_singleton

end Cert.LookupProof

end
-- ==== Proof.Owed.lean ====
/- What each device owes at launch, in the order it pays, and the levels that let it wait while owing. -/
module

public import proofs.«01_k».proof.Proof.Cells

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-- The debts of a list of (cell, amount), the head the last summand. -/
def dues : List (GSem nD τ sig × ℕ) → CellTallies nD τ sig Unit
  | [] => 0
  | p :: l => dues l + tallyAt p.1 () p.2

theorem dues_pos : ∀ {l : List (GSem nD τ sig × ℕ)} {g : GSem nD τ sig} {u : Unit}, 0 < dues l g u → ∃ n, (g, n) ∈ l
  | [], g, u, h => absurd h (Nat.lt_irrefl 0)
  | p :: l, g, u, h => by
    unfold dues at h
    rw [Pi.add_apply, Finsupp.add_apply, tallyAt_apply] at h
    by_cases hp : g = p.1 ∧ u = ()
    · exact ⟨p.2, by rw [hp.1]; exact List.mem_cons_self⟩
    · rw [if_neg hp, Nat.add_zero] at h
      obtain ⟨n, hn⟩ := dues_pos h
      exact ⟨n, List.mem_cons_of_mem _ hn⟩

/-- The six ways, in program order. -/
abbrev ways : List Way := [(false, 0), (false, 1), (false, 2), (true, 0), (true, 1), (true, 2)]

/-- The barrier units device `c` owes, then the landings. -/
abbrev allDues (c : Dev nD) : List (GSem nD τ sig × ℕ) :=
  ways.map (fun w => (barCell (peer w c), 1)) ++ ways.map (fun w => (recvCell w (peer w c), N))

/-- What device `c` still owes after its first `n` payments. -/
def owedAt (c : Dev nD) (n : ℕ) : CellTallies nD τ sig Unit := dues ((allDues c).drop n)

theorem owedAt_done (c : Dev nD) : owedAt c 12 = 0 := rfl

def L (g : GSem nD τ sig) : Finset Unit := if g.1.2 = .tc then {()} else ∅

/-- Barrier cells at 1, landings along z at 2, landings in the plane at 3, everything else at 0. -/
def cellLv : Option Cell → ℕ
  | some none => 1
  | some (some (true, (false, _))) => 2
  | some (some (true, (true, _))) => 3
  | _ => 0
def lv (g : GSem nD τ sig) (_ : Unit) : ℕ := cellLv (whichCell g.2)

theorem L_of_ne (g : GSem nD τ sig) (h : g.1.2 ≠ .tc) : L g = ∅ := if_neg h
theorem mem_L (g : GSem nD τ sig) (h : g.1.2 = .tc) (u : Unit) : u ∈ L g := by unfold L; rw [if_pos h]; exact Finset.mem_singleton_self _
theorem recv_lv : ∀ w : Way, 1 < cellLv (some (some (true, w))) := by decide
theorem recv_lv_plane : ∀ k : Fin 3, 2 < cellLv (some (some (true, (true, k)))) := by decide
theorem lv_cell (ck : Dev nD × Cell) : lv (kcell ck) () = cellLv (some ck.2) := by unfold lv; rw [whichCell_csem]

/-- A device may wait on a cell while it owes only cells above it. -/
theorem mayWait_of (c : Dev nD) (sm : SemLoc sig) (b : ℕ) (hb : cellLv (whichCell sm) ≤ b) (l : List (GSem nD τ sig × ℕ))
    (hl : ∀ p ∈ l, ∃ ck : Dev nD × Cell, p.1 = kcell ck ∧ b < cellLv (some ck.2)) :
    (levAts L lv : sProp 𝕄) ⊢ MayWait (c : Thread nD τ) sm () (dues l) :=
  MayOwe.of_cut (L := L) (lev := lv) b
    (fun p hp => mem_L _ (by rw [Finset.mem_singleton.mp hp]) _)
    (fun g u hg => by
      obtain ⟨n, hn⟩ := dues_pos hg
      obtain ⟨ck, hck, -⟩ := hl _ hn
      dsimp only at hck; subst hck
      exact mem_L _ rfl _)
    (fun p hp => by rw [Finset.mem_singleton.mp hp]; exact hb)
    (fun g u hg => by
      obtain ⟨n, hn⟩ := dues_pos hg
      obtain ⟨ck, hck, h⟩ := hl _ hn
      dsimp only at hck; subst hck
      rw [lv_cell]; exact h)

theorem allDues_cell (c : Dev nD) : ∀ p ∈ allDues c, ∃ ck : Dev nD × Cell, p.1 = kcell ck ∧ 0 < cellLv (some ck.2) := by
  intro p hp
  rcases List.mem_append.mp hp with h | h
  · obtain ⟨w, -, rfl⟩ := List.mem_map.mp h
    exact ⟨(peer w c, none), rfl, Nat.one_pos⟩
  · obtain ⟨w, -, rfl⟩ := List.mem_map.mp h
    exact ⟨(peer w c, some (true, w)), rfl, Nat.zero_lt_of_lt (recv_lv w)⟩

/-- The pipeline's own waits: at a semaphore that is none of the exchange's landings. -/
theorem mayWait_stage (c : Dev nD) (sm : SemLoc sig) (h : cellLv (whichCell sm) = 0) (n : ℕ) :
    (levAts L lv : sProp 𝕄) ⊢ MayWait (c : Thread nD τ) sm () (owedAt c n) :=
  mayWait_of c sm 0 h.le _ fun p hp => allDues_cell c p (List.mem_of_mem_drop hp)

/-- The barrier wait, owing the six landings. -/
theorem mayWait_bar (c : Dev nD) : (levAts L lv : sProp 𝕄) ⊢ MayWait (c : Thread nD τ) (csem none) () (owedAt c 6) :=
  mayWait_of c _ 1 (by rw [whichCell_csem]; decide) _ fun p hp => by
    obtain ⟨w, -, rfl⟩ := List.mem_map.mp (show p ∈ ways.map (fun w => (recvCell w (peer w c), N)) from hp)
    exact ⟨(peer w c, some (true, w)), rfl, recv_lv w⟩

/-- The waits for the landings along z, owing the three in the plane. -/
theorem mayWait_z (c : Dev nD) (k : Fin 3) : (levAts L lv : sProp 𝕄) ⊢ MayWait (c : Thread nD τ) (csem (some (true, (false, k)))) () (owedAt c 9) :=
  mayWait_of c _ 2 (by rw [whichCell_csem]; exact le_refl _) _ fun p hp => by
    obtain ⟨j, hw, rfl⟩ := List.mem_map.mp (show p ∈ [(0 : Fin 3), 1, 2].map (fun j => (recvCell (true, j) (peer (true, j) c), N)) from hp)
    exact ⟨(peer (true, j) c, some (true, (true, j))), rfl, recv_lv_plane j⟩

theorem mayWait_done (c : Dev nD) (sm : SemLoc sig) : (levAts L lv : sProp 𝕄) ⊢ MayWait (c : Thread nD τ) sm () (owedAt c 12) := by
  rw [owedAt_done, MayWait_zero]; iintro -; iempintro

/-- What a core owes, the waits it has made of no concern. -/
def owesE (c : Dev nD) (O : CellTallies nD τ sig Unit) : sProp 𝕄 := iprop(∃ W, owes (c : Thread nD τ) O W)

end Cert.LookupProof

end
-- ==== Proof.Steps.lean ====
/- One step of the exchange at a time: a signal, the barrier wait, a transfer, a wait on an own semaphore, a load of a
   landed slot — each for any way. -/
module

public import proofs.«01_k».proof.Proof.Owed

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, and that every cell is open. -/
def records (K : Dev nD × Cell → ℕ) : sProp 𝕄 :=
  iprop((bigSep Finset.univ fun ck : Dev nD × Cell => cellInv ER (Rd m ρ) (K ck) (kcell ck))
    ∗ bigSep Finset.univ fun ck : Dev nD × Cell => reached ER (kcell ck) 0)

instance records_persistent (K : Dev nD × Cell → ℕ) : BI.Persistent (records m ρ K) := by unfold records; infer_instance

theorem inv_at (K : Dev nD × Cell → ℕ) (ck : Dev nD × Cell) : records m ρ K ⊢ cellInv ER (Rd m ρ) (K ck) (kcell ck) := by
  unfold records; iintro ⟨#H, -⟩
  iapply (show (bigSep Finset.univ fun ck : Dev nD × Cell => (cellInv ER (Rd m ρ) (K ck) (kcell ck) : sProp 𝕄)) ⊢ cellInv ER (Rd m ρ) (K ck) (kcell ck) from
    bigSep_elim (Finset.mem_univ ck)); iexact H
theorem open_at (K : Dev nD × Cell → ℕ) (ck : Dev nD × Cell) : records m ρ K ⊢ reached ER (kcell ck) 0 := by
  unfold records; iintro ⟨-, #H⟩
  iapply (show (bigSep Finset.univ fun ck : Dev nD × Cell => (reached ER (kcell ck) 0 : sProp 𝕄)) ⊢ reached ER (kcell ck) 0 from
    bigSep_elim (Finset.mem_univ ck)); iexact H

variable (K : Dev nD × Cell → ℕ) {α : Type}

/-- Signal `w` of the handshake: one unit to the barrier of the device transfer `w` will go to, with the slot of this
    device which that device's transfer `mate w` lands in. -/
theorem step_signal {Q : α → sProp 𝕄} {k : PUnit → Prog (TpuEff nD τ sig (Elt F) Λ₀ .tc) α}
    (w : Way) (n : ℕ) (c : Dev nD) (dst : Dev nD) (hd : dst = peer w c) (a : ℤ) (ha : a = ((1 : ℕ) : ℤ))
    (hn : owedAt c n = owedAt c (n + 1) + tallyAt (barCell (peer w c)) () 1) :
    iprop(records m ρ K ∗ owesE c (owedAt c n) ∗ dutyTok ER (barCell (peer w c)) 0 (mate w) ∗ slotFree (mate w) c)
      ⊢ iprop((owesE c (owedAt c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dst : Thread nD τ) barS a) k) Q) := by
  subst hd ha
  unfold owesE
  iintro ⟨#HR, ⟨%W, HO⟩, Htok, Hslot⟩ Hk
  iapply (Rounds.wp_signal 𝒱₀ ER (Rd m ρ) (c : Thread nD τ) none (dst := (peer w c : Thread nD τ)) (sem := barS) (κ := K (peer w c, none)) (d := mate w)
      (by rw [show (((peer w c : Thread nD τ), SemLoc.reg barS) : GSem nD τ sig) = kcell (peer w c, none) from rfl, duties_cell]; exact Finset.mem_univ _)
      (amount_cell m ρ (peer w c, none) (mate w)) () (owedAt c (n + 1)) hn) $$ [HO Htok Hslot]
  · isplitr; · iapply (inv_at m ρ K (peer w c, none)); iexact HR
    isplitl [HO]; · iexact HO
    isplitl [Htok]; · iexact Htok
    isplitl [Hslot]
    · rw [show (((peer w c : Thread nD τ), SemLoc.reg barS) : GSem nD τ sig) = kcell (peer w c, none) from rfl, payload_cell]
      dsimp only [cellPay]; unfold barPay
      rw [peer_mate]
      isplitl [Hslot]; · iexact Hslot
      iapply (open_at m ρ K (c, some (true, mate w))); iexact HR
    · iapply (open_at m ρ K (peer w c, none)); iexact HR
  iintro HO
  iapply Hk
  iexists W; iexact HO

/-- The barrier wait: all six units, with the six slots this device's transfers land in. -/
theorem step_barrier {Q : α → sProp 𝕄} {k : PUnit → Prog (TpuEff nD τ sig (Elt F) Λ₀ .tc) α}
    (c : Dev nD) (a : ℤ) (ha : a = ((6 : ℕ) : ℤ)) :
    iprop(records m ρ K ∗ levAts L lv ∗ owesE c (owedAt c 6) ∗ cred (tallyAt (barCell c) () 6) ∗ atPos ER (barCell c) 0 ∅ 0)
      ⊢ iprop(((owesE c (owedAt c 6) ∗ semVal (barCell c) 0 ∗ bigSep Finset.univ (fun w => barPay w c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold owesE
  iintro ⟨#HR, #Hlev, ⟨%W, HO⟩, Hc, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := owedAt c 6) (W := W) (R := 0) (m := 0) (T := ∅)
      (by rw [show (((c : Thread nD τ), SemLoc.reg barS) : GSem nD τ sig) = barCell c from rfl, expect_bar])) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  iapply Hk
  isplitl [HO]; · iexists _; iexact HO
  isplitl [Hz]; · iexact Hz
  iapply (Entails.of_eq (rest_bar m ρ c)); iexact Hpay

/-- Transfer `w`: a share of the source buffer is lent, the slot of the receiving device written. -/
theorem step_send {Q : α → sProp 𝕄} {k : PUnit → Prog (TpuEff nD τ sig (Elt F) Λ₀ .tc) α}
    (w : Way) (n : ℕ) (c dst : Dev nD) (hd : dst = peer w c)
    {src : Memref sig .tc .vmem S128x512 .bf16} (hs : src = srcM w.1) {tgt : Memref sig .tc .vmem S128x512 .bf16} (ht : tgt = slot w)
    {sS sem : SemLoc sig} (hsS : sS = osem (false, w)) (hsem' : sem = osem (true, w))
    {hsc : (tgt : Memref sig (Dev.tc dst : Thread nD τ).2.kind .vmem S128x512 .bf16).view.ref.isScScratch = false}
    {hsrc : src.view.WordExact} {hdst : tgt.view.WordExact} {hsem : DmaTarget.Typed .vmem sem (.remote (Dev.tc dst : Thread nD τ) tgt sS hsc)}
    (hn : owedAt c n = owedAt c (n + 1) + tallyAt (recvCell w (peer w c)) () N) :
    iprop(records m ρ K ∗ owesE c (owedAt c n) ∗ srcPart m ρ w.1 (Fin.castLE (by decide) w.2) c ∗ slotFree w (peer w c)
        ∗ dutyTok ER (sendCell w c) 0 d₀ ∗ dutyTok ER (recvCell w (peer w c)) 0 d₀)
      ⊢ iprop(((cred (tallyAt (sendCell w c) () N) ∗ owesE c (owedAt c (n + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dst : Thread nD τ) tgt sS hsc) sem hsrc hdst hsem) k) Q) := by
  subst hd hs ht hsS hsem'
  unfold owesE srcPart slotFree owns
  iintro ⟨#HR, ⟨%W, HO⟩, ⟨%fs, %hfs, Hsrc⟩, ⟨%X, %fd, -, Hdst⟩, HtS, HtV⟩ Hk
  iapply (Rounds.wp_send_pointsTo 𝒱₀ ER (Rd m ρ) (c : Thread nD τ) none (κ₁ := K (c, some (false, w))) (κ₂ := K (peer w c, some (true, w)))
      (r₁ := 0) (r₂ := 0) (d₁ := d₀) (d₂ := d₀) (fs := fs) (fd := fd) (c' := (peer w c : Thread nD τ)) (sS := osem (false, w)) (sem := osem (true, w))
      ((duties_cell m ρ (c, some (false, w))).symm ▸ Finset.mem_singleton_self _)
      ((duties_cell m ρ (peer w c, some (true, w))).symm ▸ Finset.mem_singleton_self _)
      () () N (credit_slot w) (amount_cell m ρ (c, some (false, w)) d₀) (amount_cell m ρ (peer w c, some (true, w)) d₀)
      (owedAt c (n + 1)) hn (W := W)
      (by
        rw [show (((c : Thread nD τ), osem (false, w)) : GSem nD τ sig) = kcell (c, some (false, w)) from rfl, payload_cell]
        unfold cellPay srcPart owns
        iintro H; iexists fs; isplitr; · ipureintro; exact hfs
        iexact H)
      (by
        rw [show (((peer w c : Thread nD τ), osem (true, w)) : GSem nD τ sig) = kcell (peer w c, some (true, w)) from rfl, payload_cell]
        unfold cellPay slotFull owns
        iintro H; iexists ((slot w).view.write (Elt F) fd ((srcM w.1).view.read (Elt F) fs) Finset.univ); isplitr
        · ipureintro; rw [View.read_write_univ, hfs, peer_mate]
        iexact H)) $$ [HO Hsrc Hdst HtS HtV]
  · isplitr; · iapply (inv_at m ρ K (c, some (false, w))); iexact HR
    isplitr; · iapply (inv_at m ρ K (peer w c, some (true, w))); iexact HR
    isplitl [Hsrc]; · iexact Hsrc
    isplitl [Hdst]; · iexact Hdst
    isplitl [HO]; · iexact HO
    isplitl [HtS]; · iexact HtS
    isplitr; · iapply (open_at m ρ K (c, some (false, w))); iexact HR
    isplitl [HtV]; · iexact HtV
    iapply (open_at m ρ K (peer w c, some (true, w))); iexact HR
  iintro ⟨Hc, HO⟩
  iapply Hk
  isplitl [Hc]; · iexact Hc
  iexists W; iexact HO

/-- The wait for an own semaphore's block: what its one duty hands over, and the semaphore back at zero. -/
theorem step_wait {Q : α → sProp 𝕄} {k : PUnit → Prog (TpuEff nD τ sig (Elt F) Λ₀ .tc) α}
    (o : Own) (c : Dev nD) (n : ℕ) (hmay : (levAts L lv : sProp 𝕄) ⊢ MayWait (c : Thread nD τ) (csem (some o)) () (owedAt c n))
    {sem : DmaSem sig} (hsem : SemLoc.dma sem = osem o) {src tgt : Memref sig .tc .vmem S128x512 .bf16}
    {hsrc : src.view.WordExact} {hdst : tgt.view.WordExact} (hN : tgt.view.dmaCredit = N) :
    iprop(records m ρ K ∗ levAts L lv ∗ owesE c (owedAt c n) ∗ cred (tallyAt (kcell (c, some o)) () N) ∗ atPos ER (kcell (c, some o)) 0 ∅ 0)
      ⊢ iprop(((owesE c (owedAt c n) ∗ semVal (kcell (c, some o)) 0 ∗ cellPay m ρ (some o) d₀ c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src tgt hsrc hdst) k) Q) := by
  have hg : (((c : Thread nD τ), SemLoc.dma sem) : GSem nD τ sig) = kcell (c, some o) := by rw [hsem]; rfl
  unfold owesE
  iintro ⟨#HR, #Hlev, ⟨%W, HO⟩, Hc, Hat⟩ Hk
  iapply (Rounds.wp_wait_rest_token 𝒱₀ ER (Rd m ρ) (c : Thread nD τ) none (κ := K (c, some o))
      (wpE_waitDma2_eq 𝒱₀ (c : Thread nD τ) none Set.univ) (Set.mem_univ _) () (O := owedAt c n) (W := W) (R := 0) (m := 0) (T := ∅)
      (by rw [hg, expect_own, Nat.zero_add, hN])) $$ [Hc HO Hat]
  · rw [hg, hN]
    isplitr; · iapply (inv_at m ρ K (c, some o)); iexact HR
    isplitl [Hc]; · iexact Hc
    isplitl [HO]; · iexact HO
    isplitr; · rw [hsem]; iapply hmay; iexact Hlev
    iexact Hat
  rw [hg]
  iintro ⟨HO, Hat, -, Hpay⟩
  imod (Rounds.cell_close ER (Rd m ρ) (Set.mem_univ (K (c, some o))) (fun h => h) (R := 0 + 1) (duties_later m ρ (kcell (c, some o)))) $$ [Hat] with Hz
  · isplitr; · iapply (inv_at m ρ K (c, some o)); iexact HR
    iexact Hat
  iapply Hk
  isplitl [HO]; · iexists _; iexact HO
  isplitl [Hz]; · iexact Hz
  iapply (Entails.of_eq (rest_own m ρ c o)); iexact Hpay

/-- The load of a slot held at contents `X`: what is read casts to `X`. -/
theorem step_load_slot {Q : α → sProp 𝕄} (w : Way) (c : Dev nD) (X : FVec F S128x512 .bf16) {src : Memref sig .tc .vmem S3x128x512 .bf16} (hs : src = landM w.1)
    {r : LoadRect S3x128x512} (hr : r = (slotR w.2).toLoadRect) {hl : src.view.LoadsAt r}
    {k : (r.shape.Idx → Elt F .bf16) → Prog (TpuEff nD τ sig (Elt F) Λ₀ .tc) α} :
    (owns (c : Thread nD τ) (slot w) fullShare X : sProp 𝕄)
      ⊢ iprop((∀ v : r.shape.Idx → Elt F .bf16, ⌜∀ h : r.shape.ShapeCasts S128x512, shapeCast S128x512 v h = X⌝ -∗ owns (c : Thread nD τ) (slot w) fullShare X
            -∗ wp frame (wpE (defs₀ (F := F)) 𝒱₀ (c : Thread nD τ) none) Set.univ (k v) Q)
          -∗ wp frame (wpE (defs₀ (F := F)) 𝒱₀ (c : Thread nD τ) none) Set.univ (.op (.load src r hl) k) Q) := by
  subst hs hr
  unfold owns
  iintro ⟨%f, %hf, H⟩ Hk
  iapply (wp_load 𝒱₀ (c : Thread nD τ) none Set.univ (m := landM w.1) (S := (slot w).view.set) (f := f)
    ((View.set_slice _ _).symm.subset.trans (View.set_reshape _ _).symm.subset)) $$ H
  iintro H
  iapply Hk
  · ipureintro; intro h; rw [← hf]; rfl
  iexists f; isplitr; · ipureintro; exact hf
  iexact H

end Cert.LookupProof

end
-- ==== Proof.Body.lean ====
/- The kernel's printed parts, each executed once at a symbolic device. -/
module

public import proofs.«01_k».proof.Proof.Steps

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers whole -/

omit [FloatOps F] in
theorem origin2 : (![0, 0] : Fin 2 → Nat) = fun _ => 0 := funext fun a => by fin_cases a <;> rfl

/-- The source buffer, held whole at what it sends, in the four shares. -/
theorem src_shares (b : Bool) (c : Dev nD) :
    (owns (c : Thread nD τ) (srcM b) fullShare (sent m ρ b c) : sProp 𝕄) = bigSep Finset.univ (fun i => srcPart m ρ b i c) := by
  unfold srcPart
  cases b
  · simp only [srcM, owns_whole]; exact ShareLeaves.pointsTo_leaves _ _ 2 fullShare
  · simp only [srcM, owns_whole]; exact ShareLeaves.pointsTo_leaves _ _ 2 fullShare

omit [FloatOps F] in
theorem bigSep_four (Φ : Fin (2 ^ 2) → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_ways (Φ : Way → sProp 𝕄) : bigSep Finset.univ Φ
    = iprop(Φ (false, 0) ∗ Φ (false, 1) ∗ Φ (false, 2) ∗ Φ (true, 0) ∗ Φ (true, 1) ∗ Φ (true, 2)) :=
  bigSep_univ_eq_bigSepL ways (by decide) (by decide) Φ

theorem src_split0 (c : Dev nD) : ((View.loc (c : Thread nD τ) ((Memref.whole cc0_scratch0 : Memref sig .tc .vmem S128x512 .bf16).access (Rect.unit (s := S128x512) ![0, 0] S128x512.size inb_S128x512_S128x512_0_0)) ↦{fullShare} partB m ρ c) : sProp 𝕄)
    ⊢ iprop(srcPart m ρ false 0 c ∗ srcPart m ρ false 1 c ∗ srcPart m ρ false 2 c ∗ srcPart m ρ false 3 c) := by
  have h : (owns (c : Thread nD τ) (srcM false) fullShare (sent m ρ false c) : sProp 𝕄) = _ := (src_shares m ρ false c).trans (bigSep_four _)
  rw [← h]; simp only [srcM, sent, owns_whole]; exact .rfl
theorem src_split1 (c : Dev nD) : ((View.loc (c : Thread nD τ) ((Memref.whole cc0_scratch2 : Memref sig .tc .vmem S128x512 .bf16).access (Rect.unit (s := S128x512) ![0, 0] S128x512.size inb_S128x512_S128x512_0_0)) ↦{fullShare} redB m ρ c) : sProp 𝕄)
    ⊢ iprop(srcPart m ρ true 0 c ∗ srcPart m ρ true 1 c ∗ srcPart m ρ true 2 c ∗ srcPart m ρ true 3 c) := by
  have h : (owns (c : Thread nD τ) (srcM true) fullShare (sent m ρ true c) : sProp 𝕄) = _ := (src_shares m ρ true c).trans (bigSep_four _)
  rw [← h]; simp only [srcM, sent, owns_whole]; exact .rfl

/-- Loading the table whole gives its contents. -/
theorem load_tab (f : Vec F S4096x512 .bf16) :
    (tabM : Memref sig .tc .vmem S4096x512 .bf16).view.readAt (Elt F) (Rect.unit (s := S4096x512) ![0, 0] S4096x512.size inb_S4096x512_S4096x512_0_0).toLoadRect f = f :=
  Memref.readAt_unit_zero (Elt F) cc0_stg1_0 origin2 _ f

/-- Storing a source buffer whole leaves what was stored. -/
theorem store_src0 (f w : Vec F S128x512 .bf16) :
    ((Memref.whole cc0_scratch0 : Memref sig .tc .vmem S128x512 .bf16).access (Rect.unit (s := S128x512) ![0, 0] S128x512.size inb_S128x512_S128x512_0_0) : View sig .tc _ _ _).write (Elt F) f w Finset.univ = w :=
  Memref.write_access_unit_zero_univ (Elt F) cc0_scratch0 origin2 _ f w
theorem store_src1 (f w : Vec F S128x512 .bf16) :
    ((Memref.whole cc0_scratch2 : Memref sig .tc .vmem S128x512 .bf16).access (Rect.unit (s := S128x512) ![0, 0] S128x512.size inb_S128x512_S128x512_0_0) : View sig .tc _ _ _).write (Elt F) f w Finset.univ = w :=
  Memref.write_access_unit_zero_univ (Elt F) cc0_scratch2 origin2 _ f w

/-- 128 rows of the result written at a row offset. -/
def put (off : Fin 2 → Nat) (inb : ∀ a, off a + S128x512.size a ≤ S512x512.size a) (f : Vec F S512x512 .f32) (X : FVec F S128x512 .f32) : Vec F S512x512 .f32 :=
  ((outM : Memref sig .tc .vmem S512x512 .f32).access (Rect.unit (s := S512x512) off S128x512.size inb) : View sig .tc _ _ _).write (Elt F) f X Finset.univ

/-- A received summed block, in the result's type. -/
def wide (X : FVec F S128x512 .bf16) : FVec F S128x512 .f32 := extf .f32 X bitsLt_bf16_f32

/-- The result buffer after the body's four stores, from contents `f`. -/
def stored0 (c : Dev nD) (f : Vec F S512x512 .f32) : Vec F S512x512 .f32 := put (k0_off2 c) (k0_off2_inb c) f (redF m ρ c)
def stored1 (c : Dev nD) (f : Vec F S512x512 .f32) : Vec F S512x512 .f32 := put (k0_off3 c) (k0_off3_inb c) f (wide (redB m ρ (peer (true, 0) c)))
def stored2 (c : Dev nD) (f : Vec F S512x512 .f32) : Vec F S512x512 .f32 := put (k0_off4 c) (k0_off4_inb c) f (wide (redB m ρ (peer (true, 1) c)))
def stored3 (c : Dev nD) (f : Vec F S512x512 .f32) : Vec F S512x512 .f32 := put (k0_off5 c) (k0_off5_inb c) f (wide (redB m ρ (peer (true, 2) c)))
def stored (c : Dev nD) (f : Vec F S512x512 .f32) : Vec F S512x512 .f32 := stored3 m ρ c (stored2 m ρ c (stored1 m ρ c (stored0 m ρ c f)))

/-! ## What the parts pass on -/

/-- The token a signal spends. -/
def sigTok (w : Way) (c : Dev nD) : sProp 𝕄 := iprop(dutyTok ER (barCell (peer w c)) 0 (mate w) ∗ slotFree (mate w) c)
/-- What a transfer spends besides its source share. -/
def sendTok (w : Way) (c : Dev nD) : sProp 𝕄 := iprop(dutyTok ER (sendCell w c) 0 d₀ ∗ dutyTok ER (recvCell w (peer w c)) 0 d₀)
/-- What a wait on an own semaphore spends. -/
def due (o : Own) (c : Dev nD) : sProp 𝕄 := iprop(cred (tallyAt (kcell (c, some o)) () N) ∗ atPos ER (kcell (c, some o)) 0 ∅ 0)
/-- What it leaves: for a transfer that has left, its source share; -/
def gotS (w : Way) (c : Dev nD) : sProp 𝕄 := iprop(semVal (sendCell w c) 0 ∗ cellPay m ρ (some (false, w)) d₀ c)
/-- for one that has landed, the block. -/
def gotR (w : Way) (c : Dev nD) : sProp 𝕄 := iprop(semVal (recvCell w c) 0 ∗ owns (c : Thread nD τ) (slot w) fullShare (sent m ρ w.1 (peer (mate w) c)))

abbrev stag (c : Dev nD) (b : Ref sig .tc) (X : b.ty.Contents (Elt F)) : sProp 𝕄 := (((c : Thread nD τ).loc b) ↦{fullShare} X)

theorem recv_pay (w : Way) (c : Dev nD) :
    cellPay m ρ (some (true, w)) d₀ c = owns (c : Thread nD τ) (slot w) fullShare (sent m ρ w.1 (peer (mate w) c)) := rfl

variable (K : Dev nD × Cell → ℕ)

/-- The kernel's buffers and semaphores, in the order every part of the body takes them. -/
abbrev onBufs {β : Type 1}
    (f : (arg0 : Memref sig .tc .vmem S512x1 .i32) → arg0.IsWhole → (arg1 : Memref sig .tc .vmem S4096x512 .bf16) → arg1.IsWhole
      → (arg2 : Memref sig .tc .vmem S512x512 .f32) → arg2.IsWhole → (arg3 : Memref sig .tc .vmem S128x512 .bf16) → arg3.IsWhole
      → (arg4 : Memref sig .tc .vmem S3x128x512 .bf16) → arg4.IsWhole → (arg5 : Memref sig .tc .vmem S128x512 .bf16) → arg5.IsWhole
      → (arg6 : Memref sig .tc .vmem S3x128x512 .bf16) → arg6.IsWhole → DmaSems sig S3 → DmaSems sig S3 → DmaSems sig S3 → DmaSems sig S3 → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

set_option maxHeartbeats 1000000 in
theorem part1 (c : Dev nD) (Q : _ → sProp 𝕄) :
    iprop(records m ρ K ∗ owesE c (owedAt c 0) ∗ sigTok (false, 0) c
        ∗ (∀ (v2 v5 v10 v11 v12 v13 v14 v33 : BitVec 32), owesE c (owedAt c 1) -∗ Q ⟨c, v2, v5, zword c, v10, v11, v12, v13, v14, SemArray.scalar (sig.barrier 0 rfl), v33⟩))
      ⊢ wp frame (wpE (defs₀ (F := F)) 𝒱₀ (c : Thread nD τ) none) Set.univ (onBufs (k0_part1 (F := F))) Q := by
  unfold onBufs
  rw [k0_part1_eq_skeleton]; unfold k0_part1_skel sigTok zword
  simp only [semSignalWord, semWaitWord, Prog.lift, Prog.bind_op, Prog.bind_ret, Prog.pure_eq_ret, wp_deviceId]
  iintro ⟨#HR, HO, ⟨Ht, Hs⟩, Hk⟩
  iapply (step_signal m ρ K (false, 0) 0 c _ (dev1_eq c) _ (by decide) rfl) $$ [HO Ht Hs]
  · isplitr; · iexact HR
    isplitl [HO]; · iexact HO
    isplitl [Ht] <;> iassumption
  iintro HO
  rw [wp_ret]; imodintro
  iapply Hk; iexact HO

set_option maxHeartbeats 1000000 in
theorem part2 (c : Dev nD) (v2 v5 v8 v33 : BitVec 32) (Q : _ → sProp 𝕄) :
    iprop(records m ρ K ∗ owesE c (owedAt c 1) ∗ sigTok (false, 1) c ∗ sigTok (false, 2) c
        ∗ (∀ (v : BitVec 32), owesE c (owedAt c 3) -∗ Q v))
      ⊢ wp frame (wpE (defs₀ (F := F)) 𝒱₀ (c : Thread nD τ) none) Set.univ
          (onBufs (k0_part2 (F := F)) c v2 v5 v8 (SemArray.scalar (sig.barrier 0 rfl)) v33) Q := by
  unfold onBufs
  rw [k0_part2_eq_skeleton]; unfold k0_part2_skel sigTok
  simp only [semSignalWord, semWaitWord, Prog.lift, Prog.bind_op, Prog.bind_ret, Prog.pure_eq_ret, wp_deviceId]
  iintro ⟨#HR, HO, ⟨Ht, Hs⟩, ⟨Ht', Hs'⟩, Hk⟩
  iapply (step_signal m ρ K (false, 1) 1 c _ (dev2_eq c) _ (by decide) rfl) $$ [HO Ht Hs]
  · isplitr; · iexact HR
    isplitl [HO]; · iexact HO
    isplitl [Ht] <;> iassumption
  iintro HO
  iapply (step_signal m ρ K (false, 2) 2 c _ (dev3_eq c) _ (by decide) rfl) $$ [HO Ht' Hs']
  · isplitr; · iexact HR
    isplitl [HO]; · iexact HO
    isplitl [Ht'] <;> iassumption
  iintro HO
  rw [wp_ret]; imodintro
  iapply Hk; iexact HO

set_option maxHeartbeats 1000000 in
theorem part3 (c : Dev nD) (v2 v5 v10 v11 v12 v13 v14 c8 : BitVec 32) (Q : _ → sProp 𝕄) :
    iprop(records m ρ K ∗ levAts L lv ∗ owesE c (owedAt c 3) ∗ sigTok (true, 0) c ∗ sigTok (true, 1) c ∗ sigTok (true, 2) c
        ∗ cred (tallyAt (barCell c) () 6) ∗ atPos ER (barCell c) 0 ∅ 0 ∗ stag c cc0_stg0_0 (idsAt m ρ c) ∗ stag c cc0_stg1_0 (tabAt m ρ c)
        ∗ ((owesE c (owedAt c 6) ∗ semVal (barCell c) 0 ∗ bigSep Finset.univ (fun w => barPay w c) ∗ stag c cc0_stg0_0 (idsAt m ρ c) ∗ stag c cc0_stg1_0 (tabAt m ρ c))
            -∗ Q ⟨partF m ρ c, k0_pay2 (zword c) (blkIds m ρ c) (tabAt m ρ c)⟩))
      ⊢ wp frame (wpE (defs₀ (F := F)) 𝒱₀ (c : Thread nD τ) none) Set.univ
          (onBufs (k0_part3 (F := F)) c v2 v5 (zword c) v10 v11 v12 v13 v14 (SemArray.scalar (sig.barrier 0 rfl)) c8) Q := by
  unfold onBufs
  rw [k0_part3_eq_skeleton]; unfold k0_part3_skel sigTok
  simp only [semSignalWord, semWaitWord, Prog.lift, Prog.bind_op, Prog.bind_ret, Prog.pure_eq_ret, wp_deviceId]
  iintro ⟨#HR, #Hlev, HO, ⟨Ht, Hs⟩, ⟨Ht1, Hs1⟩, ⟨Ht2, Hs2⟩, Hc, Hat, H0, H1, Hk⟩
  iapply (step_signal m ρ K (true, 0) 3 c _ (dev4_eq c) _ (by decide) rfl) $$ [HO Ht Hs]
  · isplitr; · iexact HR
    isplitl [HO]; · iexact HO
    isplitl [Ht] <;> iassumption
  iintro HO
  iapply (step_signal m ρ K (true, 1) 4 c _ (dev5_eq c) _ (by decide) rfl) $$ [HO Ht1 Hs1]
  · isplitr; · iexact HR
    isplitl [HO]; · iexact HO
    isplitl [Ht1] <;> iassumption
  iintro HO
  iapply (step_signal m ρ K (true, 2) 5 c _ (dev6_eq c) _ (by decide) rfl) $$ [HO Ht2 Hs2]
  · isplitr; · iexact HR
    isplitl [HO]; · iexact HO
    isplitl [Ht2] <;> iassumption
  iintro HO
  iapply (step_barrier m ρ K c _ (by decide)) $$ [HO Hc Hat]
  · isplitr; · iexact HR
    isplitr; · iexact Hlev
    isplitl [HO]; · iexact HO
    isplitl [Hc] <;> iassumption
  iintro ⟨HO, Hv, Hpay⟩
  iapply (wp_load 𝒱₀ (c : Thread nD τ) none Set.univ (m := idsM) (Finset.subset_univ _)) $$ H0; iintro H0
  iapply (wp_load 𝒱₀ (c : Thread nD τ) none Set.univ (m := tabM) (Finset.subset_univ _)) $$ H1; iintro H1
  rw [load_tab]
  unfold partF blkIds
  rw [wp_ret]; imodintro
  iapply Hk
  isplitl [HO]; · iexact HO
  isplitl [Hv]; · iexact Hv
  isplitl [Hpay]; · iexact Hpay
  isplitl [H0] <;> iassumption

set_option maxHeartbeats 1000000 in
theorem part4 (c : Dev nD) (v2 v5 v8 : BitVec 32) (Q : _ → sProp 𝕄) :
    iprop(records m ρ K ∗ owesE c (owedAt c 6) ∗ (∃ f, stag c cc0_scratch0 f) ∗ slotFree (false, 0) (peer (false, 0) c) ∗ sendTok (false, 0) c
        ∗ (∀ (v130 v131 v132 v133 v134 v135 : _), (owesE c (owedAt c 7) ∗ cred (tallyAt (sendCell (false, 0) c) () N) ∗ srcPart m ρ false 1 c ∗ srcPart m ρ false 2 c ∗ srcPart m ρ false 3 c)
            -∗ Q ⟨v130, v131, v132, v133, v134, v135⟩))
      ⊢ wp frame (wpE (defs₀ (F := F)) 𝒱₀ (c : Thread nD τ) none) Set.univ
          (onBufs (k0_part4 (F := F)) c v2 v5 v8 (k0_pay2 (zword c) (blkIds m ρ c) (tabAt m ρ c))) Q := by
  unfold onBufs
  rw [k0_part4_eq_skeleton]; unfold k0_part4_skel sendTok
  simp only [semSignalWord, semWaitWord, Prog.lift, Prog.bind_op, Prog.bind_ret, Prog.pure_eq_ret, wp_deviceId]
  iintro ⟨#HR, HO, ⟨%f, Hb⟩, Hs, ⟨Ht, Ht'⟩, Hk⟩
  iapply (wp_load 𝒱₀ (c : Thread nD τ) none Set.univ (m := Memref.whole cc0_scratch0) (Finset.subset_univ _)) $$ Hb; iintro Hb
  iapply (wp_store 𝒱₀ (c : Thread nD τ) none Set.univ (m := Memref.whole cc0_scratch0) (r := Rect.unit (s := S128x512) ![0, 0] S128x512.size inb_S128x512_S128x512_0_0) (Mk := Finset.univ) (Finset.subset_univ _)) $$ Hb; iintro Hb
  rw [store_src0, show k0_pay3 (k0_pay2 (zword c) (blkIds m ρ c) (tabAt m ρ c)) = partB m ρ c from rfl]
  ihave Hb := (src_split0 m ρ c) $$ Hb
  icases Hb with ⟨Hb0, Hb1, Hb2, Hb3⟩
  iapply (step_send m ρ K (false, 0) 6 c _ (dev7_eq c) rfl rfl rfl rfl rfl) $$ [HO Hb0 Hs Ht Ht']
  · isplitr; · iexact HR
    isplitl [HO]; · iexact HO
    isplitl [Hb0]; · iexact Hb0
    isplitl [Hs]; · iexact Hs
    isplitl [Ht] <;> iassumption
  iintro ⟨Hc, HO⟩
  rw [wp_ret]; imodintro
  iapply Hk
  isplitl [HO]; · iexact HO
  isplitl [Hc]; · iexact Hc
  isplitl [Hb1]; · iexact Hb1
  isplitl [Hb2] <;> iassumption

set_option maxHeartbeats 1000000 in
theorem part5 (c : Dev nD) (v2 v5 v8 v130 v131 : BitVec 32) (v132 v133 v134 : BitVec 1) (Q : _ → sProp 𝕄) :
    iprop(records m ρ K ∗ owesE c (owedAt c 7) ∗ srcPart m ρ false 1 c ∗ slotFree (false, 1) (peer (false, 1) c) ∗ sendTok (false, 1) c
        ∗ (∀ (v138 v161 : BitVec 32), (owesE c (owedAt c 8) ∗ cred (tallyAt (sendCell (false, 1) c) () N)) -∗ Q ⟨v138, v161⟩))
      ⊢ wp frame (wpE (defs₀ (F := F)) 𝒱₀ (c : Thread nD τ) none) Set.univ
          (onBufs (k0_part5 (F := F)) c v2 v5 v8 v130 v131 v132 v133 v134) Q := by
  unfold onBufs
  rw [k0_part5_eq_skeleton]; unfold k0_part5_skel sendTok
  simp only [semSignalWord, semWaitWord, Prog.lift, Prog.bind_op, Prog.bind_ret, Prog.pure_eq_ret, wp_deviceId]
  iintro ⟨#HR, HO, Hb, Hs, ⟨Ht, Ht'⟩, Hk⟩
  iapply (step_send m ρ K (false, 1) 7 c _ (dev8_eq c) rfl rfl rfl rfl rfl) $$ [HO Hb Hs Ht Ht']
  · isplitr; · iexact HR
    isplitl [HO]; · iexact HO
    isplitl [Hb]; · iexact Hb
    isplitl [Hs]; · iexact Hs
    isplitl [Ht] <;> iassumption
  iintro ⟨Hc, HO⟩
  rw [wp_ret]; imodintro
  iapply Hk
  isplitl [HO] <;> iassumption

set_option maxHeartbeats 1000000 in
theorem part6 (c : Dev nD) (v2 v5 v115 v138 : BitVec 32) (a : FVec F S128x512 .f32) (Q : _ → sProp 𝕄) :
    iprop(records m ρ K ∗ levAts L lv ∗ owesE c (owedAt c 8) ∗ srcPart m ρ false 2 c ∗ slotFree (false, 2) (peer (false, 2) c) ∗ sendTok (false, 2) c
        ∗ due (true, (false, 0)) c ∗ due (true, (false, 1)) c
        ∗ ((owesE c (owedAt c 9) ∗ cred (tallyAt (sendCell (false, 2) c) () N) ∗ gotR m ρ (false, 0) c ∗ gotR m ρ (false, 1) c)
            -∗ Q (addIn (addIn a (partB m ρ (peer (mate (false, 0)) c))) (partB m ρ (peer (mate (false, 1)) c)))))
      ⊢ wp frame (wpE (defs₀ (F := F)) 𝒱₀ (c : Thread nD τ) none) Set.univ
          (onBufs (k0_part6 (F := F)) c v2 v5 a v115 v138) Q := by
  unfold onBufs
  rw [k0_part6_eq_skeleton]; unfold k0_part6_skel sendTok due gotR
  simp only [semSignalWord, semWaitWord, Prog.lift, Prog.bind_op, Prog.bind_ret, Prog.pure_eq_ret, wp_deviceId]
  iintro ⟨#HR, #Hlev, HO, Hb, Hs, ⟨Ht, Ht'⟩, ⟨Hc0, Ha0⟩, ⟨Hc1, Ha1⟩, Hk⟩
  iapply (step_send m ρ K (false, 2) 8 c _ (dev9_eq c) rfl rfl rfl rfl rfl) $$ [HO Hb Hs Ht Ht']
  · isplitr; · iexact HR
    isplitl [HO]; · iexact HO
    isplitl [Hb]; · iexact Hb
    isplitl [Hs]; · iexact Hs
    isplitl [Ht] <;> iassumption
  iintro ⟨Hc, HO⟩
  iapply (step_wait m ρ K (true, (false, 0)) c 9 (mayWait_z c 0) rfl (credit_slot (false, 0))) $$ [HO Hc0 Ha0]
  · isplitr; · iexact HR
    isplitr; · iexact Hlev
    isplitl [HO]; · iexact HO
    isplitl [Hc0] <;> iassumption
  iintro ⟨HO, Hv0, Hp0⟩
  ihave Hp0 := (Entails.of_eq (recv_pay m ρ (false, 0) c)) $$ Hp0
  iapply (step_load_slot (false, 0) c _ rfl rfl) $$ Hp0; iintro %x %hx Hp0
  iapply (step_wait m ρ K (true, (false, 1)) c 9 (mayWait_z c 1) rfl (credit_slot (false, 1))) $$ [HO Hc1 Ha1]
  · isplitr; · iexact HR
    isplitr; · iexact Hlev
    isplitl [HO]; · iexact HO
    isplitl [Hc1] <;> iassumption
  iintro ⟨HO, Hv1, Hp1⟩
  ihave Hp1 := (Entails.of_eq (recv_pay m ρ (false, 1) c)) $$ Hp1
  iapply (step_load_slot (false, 1) c _ rfl rfl) $$ Hp1; iintro %y %hy Hp1
  rw [wp_ret]; imodintro
  have h4 : k0_pay4 a x y = addIn (addIn a (partB m ρ (peer (mate (false, 0)) c))) (partB m ρ (peer (mate (false, 1)) c)) := by
    unfold k0_pay4; rw [hx, hy]; rfl
  rw [h4]
  iapply Hk
  isplitl [HO]; · iexact HO
  isplitl [Hc]; · iexact Hc
  isplitl [Hv0 Hp0]
  · isplitl [Hv0] <;> iassumption
  · isplitl [Hv1]; · iexact Hv1
    iexact Hp1

set_option maxHeartbeats 1000000 in
theorem part7 (c : Dev nD) (v2 v5 v8 v10 v11 v161 : BitVec 32) (Q : _ → sProp 𝕄) :
    iprop(records m ρ K ∗ levAts L lv ∗ owesE c (owedAt c 9) ∗ due (true, (false, 2)) c ∗ (∃ f, stag c cc0_scratch2 f) ∗ (∃ f, stag c cc0_stg2_0 f)
        ∗ ((owesE c (owedAt c 9) ∗ gotR m ρ (false, 2) c ∗ srcPart m ρ true 0 c ∗ srcPart m ρ true 1 c ∗ srcPart m ρ true 2 c ∗ srcPart m ρ true 3 c
            ∗ (∃ f, stag c cc0_stg2_0 (stored0 m ρ c f))) -∗ Q ⟨⟩))
      ⊢ wp frame (wpE (defs₀ (F := F)) 𝒱₀ (c : Thread nD τ) none) Set.univ
          (onBufs (k0_part7 (F := F)) c v2 v5 v8 v10 v11 v161 (addIn (addIn (partF m ρ c) (partB m ρ (peer (mate (false, 0)) c))) (partB m ρ (peer (mate (false, 1)) c)))) Q := by
  unfold onBufs
  rw [k0_part7_eq_skeleton]; unfold k0_part7_skel due gotR
  simp only [semSignalWord, semWaitWord, Prog.lift, Prog.bind_op, Prog.bind_ret, Prog.pure_eq_ret, wp_deviceId]
  iintro ⟨#HR, #Hlev, HO, ⟨Hc0, Ha0⟩, ⟨%f, Hb⟩, ⟨%f', Hout⟩, Hk⟩
  iapply (step_wait m ρ K (true, (false, 2)) c 9 (mayWait_z c 2) rfl (credit_slot (false, 2))) $$ [HO Hc0 Ha0]
  · isplitr; · iexact HR
    isplitr; · iexact Hlev
    isplitl [HO]; · iexact HO
    isplitl [Hc0] <;> iassumption
  iintro ⟨HO, Hv0, Hp0⟩
  ihave Hp0 := (Entails.of_eq (recv_pay m ρ (false, 2) c)) $$ Hp0
  iapply (step_load_slot (false, 2) c _ rfl rfl) $$ Hp0; iintro %x %hx Hp0
  have h5 : k0_pay5 (addIn (addIn (partF m ρ c) (partB m ρ (peer (mate (false, 0)) c))) (partB m ρ (peer (mate (false, 1)) c))) x = redF m ρ c := by
    unfold k0_pay5 redF; rw [hx]; rfl
  have h6 : k0_pay6 (addIn (addIn (partF m ρ c) (partB m ρ (peer (mate (false, 0)) c))) (partB m ρ (peer (mate (false, 1)) c))) x = redB m ρ c := by
    unfold k0_pay6; rw [h5]; rfl
  rw [h5, h6]
  iapply (wp_load 𝒱₀ (c : Thread nD τ) none Set.univ (m := Memref.whole cc0_scratch2) (Finset.subset_univ _)) $$ Hb; iintro Hb
  iapply (wp_store 𝒱₀ (c : Thread nD τ) none Set.univ (m := Memref.whole cc0_scratch2) (r := Rect.unit (s := S128x512) ![0, 0] S128x512.size inb_S128x512_S128x512_0_0) (Mk := Finset.univ) (Finset.subset_univ _)) $$ Hb; iintro Hb
  rw [store_src1]
  ihave Hb := (src_split1 m ρ c) $$ Hb
  icases Hb with ⟨Hb0, Hb1, Hb2, Hb3⟩
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) (k0_off2 c) S128x512.size (k0_off2_inb c)) (Mk := Finset.univ) (Finset.subset_univ _)) $$ Hout; iintro Hout
  rw [wp_ret]; imodintro
  iapply Hk
  isplitl [HO]; · iexact HO
  isplitl [Hv0 Hp0]
  · isplitl [Hv0] <;> iassumption
  isplitl [Hb0]; · iexact Hb0
  isplitl [Hb1]; · iexact Hb1
  isplitl [Hb2]; · iexact Hb2
  isplitl [Hb3]; · iexact Hb3
  iexists f'; iexact Hout

set_option maxHeartbeats 1000000 in
theorem part8 (c : Dev nD) (v2 v5 v8 v11 v12 v13 v14 : BitVec 32) (Q : _ → sProp 𝕄) :
    iprop(records m ρ K ∗ owesE c (owedAt c 9) ∗ (srcPart m ρ true 0 c ∗ slotFree (true, 0) (peer (true, 0) c) ∗ sendTok (true, 0) c)
        ∗ (srcPart m ρ true 1 c ∗ slotFree (true, 1) (peer (true, 1) c) ∗ sendTok (true, 1) c)
        ∗ (srcPart m ρ true 2 c ∗ slotFree (true, 2) (peer (true, 2) c) ∗ sendTok (true, 2) c)
        ∗ (∀ (v260 v264 v266 : BitVec 32), (owesE c (owedAt c 12) ∗ cred (tallyAt (sendCell (true, 0) c) () N) ∗ cred (tallyAt (sendCell (true, 1) c) () N)
            ∗ cred (tallyAt (sendCell (true, 2) c) () N)) -∗ Q ⟨v260, v264, v266⟩))
      ⊢ wp frame (wpE (defs₀ (F := F)) 𝒱₀ (c : Thread nD τ) none) Set.univ
          (onBufs (k0_part8 (F := F)) c v2 v5 v8 v11 v12 v13 v14) Q := by
  unfold onBufs
  rw [k0_part8_eq_skeleton]; unfold k0_part8_skel sendTok
  simp only [semSignalWord, semWaitWord, Prog.lift, Prog.bind_op, Prog.bind_ret, Prog.pure_eq_ret, wp_deviceId]
  iintro ⟨#HR, HO, ⟨Hb0, Hs0, Ht0, Ht0'⟩, ⟨Hb1, Hs1, Ht1, Ht1'⟩, ⟨Hb2, Hs2, Ht2, Ht2'⟩, Hk⟩
  iapply (step_send m ρ K (true, 0) 9 c _ (dev10_eq c) rfl rfl rfl rfl rfl) $$ [HO Hb0 Hs0 Ht0 Ht0']
  · isplitr; · iexact HR
    isplitl [HO]; · iexact HO
    isplitl [Hb0]; · iexact Hb0
    isplitl [Hs0]; · iexact Hs0
    isplitl [Ht0] <;> iassumption
  iintro ⟨Hc0, HO⟩
  iapply (step_send m ρ K (true, 1) 10 c _ (dev11_eq c) rfl rfl rfl rfl rfl) $$ [HO Hb1 Hs1 Ht1 Ht1']
  · isplitr; · iexact HR
    isplitl [HO]; · iexact HO
    isplitl [Hb1]; · iexact Hb1
    isplitl [Hs1]; · iexact Hs1
    isplitl [Ht1] <;> iassumption
  iintro ⟨Hc1, HO⟩
  iapply (step_send m ρ K (true, 2) 11 c _ (dev12_eq c) rfl rfl rfl rfl rfl) $$ [HO Hb2 Hs2 Ht2 Ht2']
  · isplitr; · iexact HR
    isplitl [HO]; · iexact HO
    isplitl [Hb2]; · iexact Hb2
    isplitl [Hs2]; · iexact Hs2
    isplitl [Ht2] <;> iassumption
  iintro ⟨Hc2, HO⟩
  rw [wp_ret]; imodintro
  iapply Hk
  isplitl [HO]; · iexact HO
  isplitl [Hc0]; · iexact Hc0
  isplitl [Hc1] <;> iassumption

set_option maxHeartbeats 1000000 in
theorem part9 (c : Dev nD) (v2 v8 v12 v13 v14 v260 v264 c1 : BitVec 32) (Q : _ → sProp 𝕄) :
    iprop(records m ρ K ∗ levAts L lv ∗ owesE c (owedAt c 12) ∗ due (true, (true, 0)) c ∗ due (true, (true, 1)) c ∗ (∃ f, stag c cc0_stg2_0 (stored0 m ρ c f))
        ∗ (∀ (v296 : BitVec 32), (owesE c (owedAt c 12) ∗ gotR m ρ (true, 0) c ∗ gotR m ρ (true, 1) c
            ∗ (∃ f, stag c cc0_stg2_0 (stored2 m ρ c (stored1 m ρ c (stored0 m ρ c f))))) -∗ Q v296))
      ⊢ wp frame (wpE (defs₀ (F := F)) 𝒱₀ (c : Thread nD τ) none) Set.univ
          (onBufs (k0_part9 (F := F)) c v2 v8 v12 v13 v14 v260 v264 c1) Q := by
  unfold onBufs
  rw [k0_part9_eq_skeleton]; unfold k0_part9_skel due gotR
  simp only [semSignalWord, semWaitWord, Prog.lift, Prog.bind_op, Prog.bind_ret, Prog.pure_eq_ret, wp_deviceId]
  iintro ⟨#HR, #Hlev, HO, ⟨Hc0, Ha0⟩, ⟨Hc1, Ha1⟩, ⟨%f, Hout⟩, Hk⟩
  iapply (step_wait m ρ K (true, (true, 0)) c 12 (mayWait_done c _) rfl (credit_slot (true, 0))) $$ [HO Hc0 Ha0]
  · isplitr; · iexact HR
    isplitr; · iexact Hlev
    isplitl [HO]; · iexact HO
    isplitl [Hc0] <;> iassumption
  iintro ⟨HO, Hv0, Hp0⟩
  ihave Hp0 := (Entails.of_eq (recv_pay m ρ (true, 0) c)) $$ Hp0
  iapply (step_load_slot (true, 0) c _ rfl rfl) $$ Hp0; iintro %x %hx Hp0
  unfold k0_pay7; rw [hx]
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) (k0_off3 c) S128x512.size (k0_off3_inb c)) (Mk := Finset.univ) (Finset.subset_univ _)) $$ Hout; iintro Hout
  iapply (step_wait m ρ K (true, (true, 1)) c 12 (mayWait_done c _) rfl (credit_slot (true, 1))) $$ [HO Hc1 Ha1]
  · isplitr; · iexact HR
    isplitr; · iexact Hlev
    isplitl [HO]; · iexact HO
    isplitl [Hc1] <;> iassumption
  iintro ⟨HO, Hv1, Hp1⟩
  ihave Hp1 := (Entails.of_eq (recv_pay m ρ (true, 1) c)) $$ Hp1
  iapply (step_load_slot (true, 1) c _ rfl rfl) $$ Hp1; iintro %y %hy Hp1
  unfold k0_pay8; rw [hy]
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) (k0_off4 c) S128x512.size (k0_off4_inb c)) (Mk := Finset.univ) (Finset.subset_univ _)) $$ Hout; iintro Hout
  rw [wp_ret]; imodintro
  iapply Hk
  isplitl [HO]; · iexact HO
  isplitl [Hv0 Hp0]
  · isplitl [Hv0] <;> iassumption
  isplitl [Hv1 Hp1]
  · isplitl [Hv1]; · iexact Hv1
    iexact Hp1
  iexists f; iexact Hout

set_option maxHeartbeats 1000000 in
theorem part10 (c : Dev nD) (v8 v13 v14 v296 : BitVec 32) (Q : _ → sProp 𝕄) :
    iprop(records m ρ K ∗ levAts L lv ∗ owesE c (owedAt c 12) ∗ due (true, (true, 2)) c ∗ due (false, (false, 0)) c ∗ due (false, (false, 1)) c
        ∗ (∃ f, stag c cc0_stg2_0 (stored2 m ρ c (stored1 m ρ c (stored0 m ρ c f))))
        ∗ ((owesE c (owedAt c 12) ∗ gotR m ρ (true, 2) c ∗ gotS m ρ (false, 0) c ∗ gotS m ρ (false, 1) c
            ∗ (∃ f, stag c cc0_stg2_0 (stored m ρ c f))) -∗ Q ⟨⟩))
      ⊢ wp frame (wpE (defs₀ (F := F)) 𝒱₀ (c : Thread nD τ) none) Set.univ
          (onBufs (k0_part10 (F := F)) c v8 v13 v14 v296) Q := by
  unfold onBufs
  rw [k0_part10_eq_skeleton]; unfold k0_part10_skel due gotR gotS
  simp only [semSignalWord, semWaitWord, Prog.lift, Prog.bind_op, Prog.bind_ret, Prog.pure_eq_ret, wp_deviceId]
  iintro ⟨#HR, #Hlev, HO, ⟨Hc0, Ha0⟩, ⟨Hc1, Ha1⟩, ⟨Hc2, Ha2⟩, ⟨%f, Hout⟩, Hk⟩
  iapply (step_wait m ρ K (true, (true, 2)) c 12 (mayWait_done c _) rfl (credit_slot (true, 2))) $$ [HO Hc0 Ha0]
  · isplitr; · iexact HR
    isplitr; · iexact Hlev
    isplitl [HO]; · iexact HO
    isplitl [Hc0] <;> iassumption
  iintro ⟨HO, Hv0, Hp0⟩
  ihave Hp0 := (Entails.of_eq (recv_pay m ρ (true, 2) c)) $$ Hp0
  iapply (step_load_slot (true, 2) c _ rfl rfl) $$ Hp0; iintro %x %hx Hp0
  unfold k0_pay9; rw [hx]
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) (k0_off5 c) S128x512.size (k0_off5_inb c)) (Mk := Finset.univ) (Finset.subset_univ _)) $$ Hout; iintro Hout
  iapply (step_wait m ρ K (false, (false, 0)) c 12 (mayWait_done c _) rfl (credit_src false)) $$ [HO Hc1 Ha1]
  · isplitr; · iexact HR
    isplitr; · iexact Hlev
    isplitl [HO]; · iexact HO
    isplitl [Hc1] <;> iassumption
  iintro ⟨HO, Hv1, Hp1⟩
  iapply (step_wait m ρ K (false, (false, 1)) c 12 (mayWait_done c _) rfl (credit_src false)) $$ [HO Hc2 Ha2]
  · isplitr; · iexact HR
    isplitr; · iexact Hlev
    isplitl [HO]; · iexact HO
    isplitl [Hc2] <;> iassumption
  iintro ⟨HO, Hv2, Hp2⟩
  rw [wp_ret]; imodintro
  iapply Hk
  isplitl [HO]; · iexact HO
  isplitl [Hv0 Hp0]
  · isplitl [Hv0] <;> iassumption
  isplitl [Hv1 Hp1]
  · isplitl [Hv1]; · iexact Hv1
    iexact Hp1
  isplitl [Hv2 Hp2]
  · isplitl [Hv2]; · iexact Hv2
    iexact Hp2
  iexists f; iexact Hout

end Cert.LookupProof

end
-- ==== Proof.Run.lean ====
/- The body run at a symbolic device: what it starts from, what it leaves. -/
module

public import proofs.«01_k».proof.Proof.Body

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cell → ℕ)

/-- What the body of device `c` starts from. -/
def bodyIn (c : Dev nD) : sProp 𝕄 :=
  iprop(records m ρ K ∗ levAts L lv ∗ owesE c (owedAt c 0) ∗ cred (tallyAt (barCell c) () 6) ∗ atPos ER (barCell c) 0 ∅ 0
    ∗ bigSep Finset.univ (fun w : Way => sigTok w c) ∗ bigSep Finset.univ (fun w : Way => sendTok w c)
    ∗ bigSep Finset.univ (fun w : Way => due (true, w) c) ∗ bigSep Finset.univ (fun w : Way => atPos ER (sendCell w c) 0 ∅ 0)
    ∗ (∃ f, stag c cc0_scratch0 f) ∗ (∃ f, stag c cc0_scratch2 f)
    ∗ stag c cc0_stg0_0 (idsAt m ρ c) ∗ stag c cc0_stg1_0 (tabAt m ρ c) ∗ (∃ f, stag c cc0_stg2_0 f))

/-- What it leaves: every counter at zero, the source shares back, the blocks landed, the result stored. -/
def bodyOut (c : Dev nD) : sProp 𝕄 :=
  iprop(owesE c (owedAt c 12) ∗ semVal (barCell c) 0
    ∗ bigSep Finset.univ (fun w : Way => gotS m ρ w c) ∗ bigSep Finset.univ (fun w : Way => gotR m ρ w c)
    ∗ srcPart m ρ false 3 c ∗ srcPart m ρ true 3 c
    ∗ stag c cc0_stg0_0 (idsAt m ρ c) ∗ stag c cc0_stg1_0 (tabAt m ρ c) ∗ (∃ f, stag c cc0_stg2_0 (stored m ρ c f)))

set_option maxHeartbeats 2000000 in
/-- The body at device `c`, its parts in order. -/
theorem run_body (c : Dev nD) (Q : PUnit → sProp 𝕄) :
    iprop(bodyIn m ρ K c ∗ (bodyOut m ρ c -∗ Q ⟨⟩))
      ⊢ wp frame (wpE (defs₀ (F := F)) 𝒱₀ (c : Thread nD τ) none) Set.univ (onBufs (cc0_body (F := F))) Q := by
  unfold onBufs
  rw [cc0_body_eq_skeleton]; unfold cc0_body_skel bodyIn
  simp only [bigSep_ways]
  iintro ⟨⟨#HR, #Hlev, HO, HcB, HaB, ⟨Hg0, Hg1, Hg2, Hg3, Hg4, Hg5⟩, ⟨Ht0, Ht1, Ht2, Ht3, Ht4, Ht5⟩, ⟨Hd0, Hd1, Hd2, Hd3, Hd4, Hd5⟩, ⟨Ha0, Ha1, Ha2, Ha3, Ha4, Ha5⟩, Hb, Hb', H0, H1, Hout⟩, Hk⟩
  rw [wp_bind]
  iapply (part1 m ρ K c _)
  isplitr; · iexact HR
  isplitl [HO]; · iexact HO
  isplitl [Hg0]; · iexact Hg0
  iintro %v2 %v5 %v10 %v11 %v12 %v13 %v14 %v33 HO
  dsimp only
  rw [wp_bind]
  iapply (part2 m ρ K c _ _ _ _ _)
  isplitr; · iexact HR
  isplitl [HO]; · iexact HO
  isplitl [Hg1]; · iexact Hg1
  isplitl [Hg2]; · iexact Hg2
  iintro %c8 HO
  rw [wp_bind]
  iapply (part3 m ρ K c _ _ _ _ _ _ _ _ _)
  isplitr; · iexact HR
  isplitr; · iexact Hlev
  isplitl [HO]; · iexact HO
  isplitl [Hg3]; · iexact Hg3
  isplitl [Hg4]; · iexact Hg4
  isplitl [Hg5]; · iexact Hg5
  isplitl [HcB]; · iexact HcB
  isplitl [HaB]; · iexact HaB
  isplitl [H0]; · iexact H0
  isplitl [H1]; · iexact H1
  iintro ⟨HO, HvB, Hpay, H0, H1⟩
  dsimp only
  ihave Hpay := (Entails.of_eq (bigSep_ways (fun w => barPay w c))) $$ Hpay
  unfold barPay
  icases Hpay with ⟨⟨Hs0, -⟩, ⟨Hs1, -⟩, ⟨Hs2, -⟩, ⟨Hs3, -⟩, ⟨Hs4, -⟩, ⟨Hs5, -⟩⟩
  rw [wp_bind]
  iapply (part4 m ρ K c _ _ _ _)
  isplitr; · iexact HR
  isplitl [HO]; · iexact HO
  isplitl [Hb]; · iexact Hb
  isplitl [Hs0]; · iexact Hs0
  isplitl [Ht0]; · iexact Ht0
  iintro %v115 %v130 %v131 %v132 %v133 %v134 ⟨HO, Hc0, Hp1, Hp2, Hp3⟩
  dsimp only
  rw [wp_bind]
  iapply (part5 m ρ K c _ _ _ _ _ _ _ _ _)
  isplitr; · iexact HR
  isplitl [HO]; · iexact HO
  isplitl [Hp1]; · iexact Hp1
  isplitl [Hs1]; · iexact Hs1
  isplitl [Ht1]; · iexact Ht1
  iintro %v138 %v161 ⟨HO, Hc1⟩
  dsimp only
  rw [wp_bind]
  iapply (part6 m ρ K c _ _ _ _ _ _)
  isplitr; · iexact HR
  isplitr; · iexact Hlev
  isplitl [HO]; · iexact HO
  isplitl [Hp2]; · iexact Hp2
  isplitl [Hs2]; · iexact Hs2
  isplitl [Ht2]; · iexact Ht2
  isplitl [Hd0]; · iexact Hd0
  isplitl [Hd1]; · iexact Hd1
  iintro ⟨HO, Hc2, Hr0, Hr1⟩
  rw [wp_bind]
  iapply (part7 m ρ K c _ _ _ _ _ _ _)
  isplitr; · iexact HR
  isplitr; · iexact Hlev
  isplitl [HO]; · iexact HO
  isplitl [Hd2]; · iexact Hd2
  isplitl [Hb']; · iexact Hb'
  isplitl [Hout]; · iexact Hout
  iintro ⟨HO, Hr2, Hq0, Hq1, Hq2, Hq3, Hout⟩
  rw [wp_bind]
  iapply (part8 m ρ K c _ _ _ _ _ _ _ _)
  isplitr; · iexact HR
  isplitl [HO]; · iexact HO
  isplitl [Hq0 Hs3 Ht3]
  · isplitl [Hq0]; · iexact Hq0
    isplitl [Hs3] <;> iassumption
  isplitl [Hq1 Hs4 Ht4]
  · isplitl [Hq1]; · iexact Hq1
    isplitl [Hs4] <;> iassumption
  isplitl [Hq2 Hs5 Ht5]
  · isplitl [Hq2]; · iexact Hq2
    isplitl [Hs5] <;> iassumption
  iintro %v260 %v264 %v266 ⟨HO, Hc3, Hc4, Hc5⟩
  dsimp only
  rw [wp_bind]
  iapply (part9 m ρ K c _ _ _ _ _ _ _ _ _)
  isplitr; · iexact HR
  isplitr; · iexact Hlev
  isplitl [HO]; · iexact HO
  isplitl [Hd3]; · iexact Hd3
  isplitl [Hd4]; · iexact Hd4
  isplitl [Hout]; · iexact Hout
  iintro %v296 ⟨HO, Hr3, Hr4, Hout⟩
  rw [wp_bind]
  iapply (part10 m ρ K c _ _ _ _ _)
  isplitr; · iexact HR
  isplitr; · iexact Hlev
  isplitl [HO]; · iexact HO
  isplitl [Hd5]; · iexact Hd5
  isplitl [Hc0 Ha0]; · unfold due; isplitl [Hc0] <;> iassumption
  isplitl [Hc1 Ha1]; · unfold due; isplitl [Hc1] <;> iassumption
  isplitl [Hout]; · iexact Hout
  iintro ⟨HO, Hr5, Hl0, Hl1, Hout⟩
  simp only [Prog.lift, Prog.bind_op, Prog.bind_ret, Prog.pure_eq_ret]
  iapply (step_wait m ρ K (false, (false, 2)) c 12 (mayWait_done c _) rfl (credit_src false)) $$ [HO Hc2 Ha2]
  · isplitr; · iexact HR
    isplitr; · iexact Hlev
    isplitl [HO]; · iexact HO
    isplitl [Hc2] <;> iassumption
  iintro ⟨HO, Hv2, Hx2⟩
  iapply (step_wait m ρ K (false, (true, 0)) c 12 (mayWait_done c _) rfl (credit_src true)) $$ [HO Hc3 Ha3]
  · isplitr; · iexact HR
    isplitr; · iexact Hlev
    isplitl [HO]; · iexact HO
    isplitl [Hc3] <;> iassumption
  iintro ⟨HO, Hv3, Hx3⟩
  iapply (step_wait m ρ K (false, (true, 1)) c 12 (mayWait_done c _) rfl (credit_src true)) $$ [HO Hc4 Ha4]
  · isplitr; · iexact HR
    isplitr; · iexact Hlev
    isplitl [HO]; · iexact HO
    isplitl [Hc4] <;> iassumption
  iintro ⟨HO, Hv4, Hx4⟩
  iapply (step_wait m ρ K (false, (true, 2)) c 12 (mayWait_done c _) rfl (credit_src true)) $$ [HO Hc5 Ha5]
  · isplitr; · iexact HR
    isplitr; · iexact Hlev
    isplitl [HO]; · iexact HO
    isplitl [Hc5] <;> iassumption
  iintro ⟨HO, Hv5, Hx5⟩
  rw [wp_ret]; imodintro
  iapply Hk
  unfold bodyOut
  simp only [bigSep_ways]
  isplitl [HO]; · iexact HO
  isplitl [HvB]; · iexact HvB
  isplitl [Hl0 Hl1 Hv2 Hx2 Hv3 Hx3 Hv4 Hx4 Hv5 Hx5]
  · isplitl [Hl0]; · iexact Hl0
    isplitl [Hl1]; · iexact Hl1
    unfold gotS
    isplitl [Hv2 Hx2]; · isplitl [Hv2] <;> iassumption
    isplitl [Hv3 Hx3]; · isplitl [Hv3] <;> iassumption
    isplitl [Hv4 Hx4]; · isplitl [Hv4] <;> iassumption
    isplitl [Hv5] <;> iassumption
  isplitl [Hr0 Hr1 Hr2 Hr3 Hr4 Hr5]
  · isplitl [Hr0]; · iexact Hr0
    isplitl [Hr1]; · iexact Hr1
    isplitl [Hr2]; · iexact Hr2
    isplitl [Hr3]; · iexact Hr3
    isplitl [Hr4]; · iexact Hr4
    iexact Hr5
  isplitl [Hp3]; · iexact Hp3
  isplitl [Hq3]; · iexact Hq3
  isplitl [H0]; · iexact H0
  isplitl [H1]; · iexact H1
  iexact Hout

end Cert.LookupProof

end
-- ==== Proof.Slots.lean ====
/- The two landing buffers cut into their three slots each, and joined back. -/
module

public import proofs.«01_k».proof.Proof.Cells
public import Idealize.ShloMosaic.Lib.Ring.FamCut

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-- The elements of slot `w` in its landing buffer. -/
def slotSet (b : Bool) (c : Dev nD) (k : Fin 3) : Finset (Idx ((landM b).view.loc (c : Thread nD τ))) := (slot (b, k)).view.set

theorem slotR_disj (k k' : Fin 3) (h : k ≠ k') : Disjoint (slotR k).set (slotR k').set := by
  have hv : k.val ≠ k'.val := fun e => h (Fin.ext e)
  exact Rect.unit_disjoint (s := S3x128x512) 0 (show k.val + 1 ≤ k'.val ∨ k'.val + 1 ≤ k.val by omega)

/-- Distinct slots share no element. -/
theorem slotSet_disj (b : Bool) (c : Dev nD) (k k' : Fin 3) (h : k ≠ k') : Disjoint (slotSet b c k) (slotSet b c k') := by
  have hs (k : Fin 3) : slotSet b c k = (slotR k).set.map (landM b).view.emb := (View.set_reshape _ _).trans (View.set_slice _ _)
  rw [hs, hs]
  exact (Finset.disjoint_map _).mpr (slotR_disj k k' h)

theorem slotFree_eq (b : Bool) (c : Dev nD) (k : Fin 3) : (slotFree (F := F) (b, k) c : sProp 𝕄) ⊣⊢ iprop(∃ f, (landM b).view.loc (c : Thread nD τ) ↦[slotSet b c k]{fullShare} f) := by
  unfold slotFree owns slotSet
  constructor
  · iintro ⟨%X, %f, %hf, H⟩; iexists f; iexact H
  · iintro ⟨%f, H⟩; iexists ((slot (b, k)).view.read (Elt F) f); iexists f
    isplitr; · ipureintro; rfl
    iexact H

/-- What the slots leave of a landing buffer (nothing, but carried). -/
def slotRest (b : Bool) (c : Dev nD) : sProp 𝕄 := iprop(∃ f, (landM b).view.loc (c : Thread nD τ) ↦[Ring.restOf (slotSet b c)]{fullShare} f)

theorem slots_split (b : Bool) (c : Dev nD) :
    (iprop(∃ f, (landM b).view.loc (c : Thread nD τ) ↦{fullShare} f) : sProp 𝕄) ⊢ iprop(bigSep Finset.univ (fun k : Fin 3 => slotFree (F := F) (b, k) c) ∗ slotRest b c) :=
  (Ring.fam_split_ex (slotSet b c) (slotSet_disj b c)).trans (sep_mono_left (bigSep_mono fun k _ => (slotFree_eq b c k).2))

theorem slots_join (b : Bool) (c : Dev nD) (f₀ : Buf (Elt F) ((landM b).view.loc (c : Thread nD τ))) :
    iprop(bigSep Finset.univ (fun k : Fin 3 => slotFree (F := F) (b, k) c) ∗ slotRest b c) ⊢ (iprop(∃ f, (landM b).view.loc (c : Thread nD τ) ↦{fullShare} f) : sProp 𝕄) :=
  (sep_mono_left (bigSep_mono fun k _ => (slotFree_eq b c k).1)).trans (Ring.fam_join (slotSet b c) (slotSet_disj b c) f₀)

end Cert.LookupProof

end
-- ==== Proof.Deal.lean ====
/- The ghost state dealt at launch: every cell allocated, the duty tokens handed to the devices that pay them, and the
   launch credit. -/
module

public import proofs.«01_k».proof.Proof.Body

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## Enumerations -/

omit [FloatOps F] in
theorem bigSep_cells (Φ : Cell → sProp 𝕄) : bigSep Finset.univ Φ = iprop(Φ none ∗ bigSep Finset.univ (fun o : Own => Φ (some o))) := by
  have h : (Finset.univ : Finset Cell).erase none = Finset.univ.map Function.Embedding.some := by decide
  rw [bigSep_univ_split none, h, bigSep_map]; rfl
omit [FloatOps F] in
theorem bigSep_own {I : Type} [Fintype I] [DecidableEq I] (Φ : Bool × I → sProp 𝕄) :
    bigSep Finset.univ Φ = iprop(bigSep Finset.univ (fun i : I => Φ (false, i)) ∗ bigSep Finset.univ (fun i : I => Φ (true, i))) := by
  rw [bigSep_univ_prod, bigSep_univ_eq_bigSepL [false, true] (by decide) (by decide)]; rfl

omit [FloatOps F] in
/-- What every device holds per way, held by the device that way leads to instead. -/
theorem bigSep_deal (Φ : Way → Dev nD → sProp 𝕄) :
    (bigSep Finset.univ fun c : Dev nD => bigSep Finset.univ fun w : Way => Φ w c) = bigSep Finset.univ fun c : Dev nD => bigSep Finset.univ fun w : Way => Φ w (peer w c) := by
  rw [bigSep_univ_comm (fun c w => Φ w c), bigSep_univ_comm (fun c w => Φ w (peer w c))]
  exact bigSep_congr fun w _ => bigSep_univ_equiv (along w) (Φ w)

def mateE : Way ≃ Way := ⟨mate, mate, mate_mate, mate_mate⟩

/-! ## The cells and tokens minted -/

def cells : Finset (GSem nD τ sig) := Finset.univ.map ⟨kcell, kcell_injective⟩

/-- A device's own cells' duty tokens: its barrier's six, one of each own cell. -/
abbrev tokOf (cj : Dev nD × (Way ⊕ Own)) : GSem nD τ sig × ℕ × Way := match cj.2 with
  | .inl w => (barCell cj.1, 0, w)
  | .inr o => (kcell (cj.1, some o), 0, d₀)
theorem tokOf_injective : Function.Injective tokOf := by
  rintro ⟨c, j | j⟩ ⟨c', j' | j'⟩ h
  · have h1 := congrArg Prod.fst (kcell_injective (congrArg Prod.fst h))
    have h2 : j = j' := congrArg (fun x : GSem nD τ sig × ℕ × Way => x.2.2) h
    dsimp only at h1; rw [h1, h2]
  · exact absurd (congrArg Prod.snd (kcell_injective (congrArg Prod.fst h))) (by simp)
  · exact absurd (congrArg Prod.snd (kcell_injective (congrArg Prod.fst h))) (by simp)
  · have h1 := kcell_injective (congrArg Prod.fst h)
    have h2 : c = c' := congrArg Prod.fst h1
    have h3 : j = j' := Option.some.inj (congrArg Prod.snd h1)
    rw [h2, h3]
def mintedToks : Finset (GSem nD τ sig × ℕ × Way) := Finset.univ.map ⟨tokOf, tokOf_injective⟩

def u₀ : UU := (initOf (Pipeline.cells cfgs cellOf_inj) (Pipeline.launchToks cfgs cellOf_inj), initOf cells mintedToks)

/-- The duty tokens of device `c`'s own cells. -/
def toks (c : Dev nD) : sProp 𝕄 :=
  iprop(bigSep Finset.univ (fun w : Way => dutyTok ER (barCell c) 0 w) ∗ bigSep Finset.univ (fun o : Own => dutyTok ER (kcell (c, some o)) 0 d₀))
/-- The tokens of the duties it pays. -/
def payToks (c : Dev nD) : sProp 𝕄 :=
  iprop(bigSep Finset.univ (fun w : Way => dutyTok ER (barCell (peer w c)) 0 (mate w)) ∗ bigSep Finset.univ (fun w : Way => sendTok w c))

/-- Every token goes to the device that pays with it. -/
theorem toks_around : (bigSep Finset.univ fun c : Dev nD => (toks c : sProp 𝕄)) ⊢ bigSep Finset.univ fun c : Dev nD => payToks c := by
  unfold toks payToks sendTok
  simp only [bigSep_own (I := Way), bigSep_sep']
  rw [← bigSep_deal (fun w c => dutyTok ER (barCell c) 0 (mate w)), ← bigSep_deal (fun w c => dutyTok ER (recvCell w c) 0 d₀)]
  iintro ⟨H1, H2, H3⟩
  isplitl [H1]
  · iapply (Entails.of_eq (bigSep_congr (s := Finset.univ) fun (c : Dev nD) _ => bigSep_univ_equiv mateE (fun w : Way => (dutyTok ER (barCell c) 0 w : sProp 𝕄))))
    iexact H1
  isplitl [H2] <;> iassumption

/-- What the launch element deals device `c`; -/
def G (c : Dev nD) : sProp 𝕄 :=
  iprop((bigSep Finset.univ fun k : Cell => roundState ER (Rd m ρ) (kcell (c, k)) 0)
    ∗ (bigSep Finset.univ fun k : Cell => iprop(atPos ER (kcell (c, k)) 0 ∅ 0 ∗ reached ER (kcell (c, k)) 0)) ∗ toks c)
/-- what stays with it besides the records; -/
def linear (c : Dev nD) : sProp 𝕄 := iprop((bigSep Finset.univ fun k : Cell => atPos ER (kcell (c, k)) 0 ∅ 0) ∗ payToks c)
/-- and what the global step makes of both. -/
def G' (c : Dev nD) : sProp 𝕄 := iprop(∃ K, records m ρ K ∗ linear c)

theorem fund_cells : BI.own (ER (initOf cells mintedToks)) ⊢ (|==> bigSep Finset.univ (G m ρ) : sProp 𝕄) := by
  have hX (Φ : GSem nD τ sig → sProp 𝕄) : bigSep cells Φ = bigSep Finset.univ fun c : Dev nD => bigSep Finset.univ fun k : Cell => Φ (kcell (c, k)) := by
    unfold cells; rw [bigSep_map, bigSep_univ_prod]; rfl
  have hT : bigSep mintedToks (fun x => (dutyTok ER x.1 x.2.1 x.2.2 : sProp 𝕄)) = bigSep Finset.univ fun c : Dev nD => toks c := by
    unfold mintedToks; rw [bigSep_map, bigSep_univ_prod]
    exact bigSep_congr fun c _ => by unfold toks; rw [bigSep_univ_sum]; rfl
  iintro HX
  imod (Rounds.fund ER (Rd m ρ) cells mintedToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    (bigSep Finset.univ fun k : Cell => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_cells, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (Rd m ρ) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cell => semVal (kcell (c, k)) 0) ∗ bigSep Finset.univ fun k : Cell => roundState ER (Rd m ρ) (kcell (c, k)) 0)
      ⊢ (|={Set.univ}=> bigSep Finset.univ fun k : Cell => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (Rd m ρ) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (Rd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  ihave Htk := (toks_around (F := F)) $$ Htok
  iapply (bigSep_with_persistent (R := records m ρ K) (Φ := linear) fun c _ => show iprop(records m ρ K ∗ linear c) ⊢ G' m ρ c from by
    unfold G'; iintro H; iexists K; iexact H)
  isplitr
  · unfold records; isplitl; · iexact HI
    iexact HR
  · unfold linear; rw [bigSep_sep']
    isplitl [Hat]; · iexact Hat
    iexact Htk

/-- Own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
theorem dues_append (l l' : List (GSem nD τ sig × ℕ)) (g : GSem nD τ sig) (u : Unit) : dues (l ++ l') g u = dues l g u + dues l' g u := by
  induction l with
  | nil => exact (Nat.zero_add _).symm
  | cons p l ih =>
    show dues (l ++ l') g u + _ = dues l g u + _ + dues l' g u
    rw [ih]; omega
omit [FloatOps F] in
theorem dues_sum (l : List (GSem nD τ sig × ℕ)) (g : GSem nD τ sig) : dues l g () = (l.map fun p => if g = p.1 then p.2 else 0).sum := by
  induction l with
  | nil => rfl
  | cons p l ih =>
    show dues l g () + tallyAt p.1 () p.2 g () = _
    rw [ih, tallyAt_apply, List.map_cons, List.sum_cons, Nat.add_comm]
    congr 1
    by_cases h : g = p.1
    · rw [if_pos ⟨h, rfl⟩, if_pos h]
    · rw [if_neg fun h' => h h'.1, if_neg h]
omit [FloatOps F] in
theorem dues_ways (f : Way → GSem nD τ sig × ℕ) (g : GSem nD τ sig) : dues (ways.map f) g () = ∑ w : Way, if g = (f w).1 then (f w).2 else 0 := by
  rw [dues_sum, List.map_map, show (Finset.univ : Finset Way) = ways.toFinset by decide, List.sum_toFinset _ (by decide)]; rfl

omit [FloatOps F] in
/-- What all devices owe one cell. -/
theorem owed_total (c : Dev nD) (k : Cell) : ∑ d : Dev nD, owedAt d 0 (kcell (c, k)) ()
    = (∑ w : Way, if k = none then 1 else 0) + ∑ w : Way, if k = some (true, w) then N else 0 := by
  have h1 (d : Dev nD) : owedAt d 0 (kcell (c, k)) () = (∑ w : Way, if kcell (c, k) = barCell (peer w d) then 1 else 0)
      + ∑ w : Way, if kcell (c, k) = recvCell w (peer w d) then N else 0 := by
    show dues (ways.map _ ++ ways.map _) _ _ = _
    rw [dues_append, dues_ways, dues_ways]
  have h2 (k' : Cell) (w : Way) (n : ℕ) : (∑ d : Dev nD, if kcell (c, k) = kcell (peer w d, k') then n else 0) = if k = k' then n else 0 := by
    by_cases hk : k = k'
    · subst hk
      rw [if_pos rfl, Finset.sum_congr rfl (fun d _ => if_congr (show kcell (c, k) = kcell (peer w d, k) ↔ d = peer (mate w) c from
        ⟨fun h => (peer_eq_iff w d c).mp (congrArg Prod.fst (kcell_injective h)).symm, fun h => by rw [(peer_eq_iff w d c).mpr h]⟩) rfl rfl),
        Finset.sum_ite_eq' Finset.univ _ fun _ => n, if_pos (Finset.mem_univ _)]
    · rw [if_neg hk]
      exact Finset.sum_eq_zero fun d _ => if_neg fun h => hk (congrArg Prod.snd (kcell_injective h))
  rw [Finset.sum_congr rfl fun d _ => h1 d, Finset.sum_add_distrib, Finset.sum_comm, Finset.sum_comm (s := Finset.univ (α := Dev nD)) (t := Finset.univ (α := Way))]
  exact congrArg₂ (· + ·) (Finset.sum_congr rfl fun w _ => h2 none w 1) (Finset.sum_congr rfl fun w _ => h2 (some (true, w)) w N)

omit [FloatOps F] in
theorem launch_cell (c : Dev nD) (k : Cell) (n : ℕ) (hn : ((∑ w : Way, if k = none then 1 else 0) + ∑ w : Way, if k = some (true, w) then N else 0) = n) :
    tallyOn (kcell (c, k)) (launchCredit (Pipeline.owing fun d => owedAt d 0) 0 (kcell (c, k))) = (tallyAt (kcell (c, k)) () n : CellTallies nD τ sig Unit) := by
  unfold tallyAt; refine congrArg _ (Finsupp.ext fun u => ?_); cases u
  rw [Pipeline.launchCredit_owing, Finsupp.single_eq_same, owed_total, hn]

omit [FloatOps F] in
theorem creds (c : Dev nD) :
    (Pipeline.launchCred (fun d => owedAt d 0) c : sProp 𝕄) ⊢ iprop(cred (tallyAt (barCell c) () 6) ∗ bigSep Finset.univ (fun w : Way => cred (tallyAt (recvCell w c) () N))) := by
  unfold Pipeline.launchCred
  refine (show _ ⊢ bigSep (Finset.univ.map ⟨csem, csem_injective⟩) _ from bigSep_subset (Finset.subset_univ _)).trans ?_
  rw [bigSep_map, bigSep_cells, bigSep_own]
  refine sep_mono ?_ (sep_elim_right.trans (bigSep_mono fun w _ => ?_))
  · exact Entails.of_eq (congrArg cred (launch_cell c none 6 (by simp)))
  · exact Entails.of_eq (congrArg cred (launch_cell c (some (true, w)) N (by simp)))

end Cert.LookupProof

end
-- ==== Proof.Enter.lean ====
/- What the body's precondition is made of at the launch, and what its postcondition gives back. -/
module

public import proofs.«01_k».proof.Proof.Run
public import proofs.«01_k».proof.Proof.Slots
public import proofs.«01_k».proof.Proof.Deal

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-- A scratch buffer at contents of no concern. -/
abbrev any (c : Dev nD) (b : Ref sig .tc) : sProp 𝕄 := iprop(∃ f, stag (F := F) c b f)

/-- The four scratch buffers. -/
def scratch (c : Dev nD) : sProp 𝕄 := iprop(any (F := F) c cc0_scratch0 ∗ any (F := F) c cc0_scratch1 ∗ any (F := F) c cc0_scratch2 ∗ any (F := F) c cc0_scratch3)

/-- What the launch leaves device `c` besides its buffers. -/
def start (c : Dev nD) : sProp 𝕄 :=
  iprop(G' m ρ c ∗ (cred (tallyAt (barCell c) () 6) ∗ bigSep Finset.univ (fun w : Way => cred (tallyAt (recvCell w c) () N))) ∗ levAts L lv)

/-- Every counter of the kernel back at zero. -/
def closed (c : Dev nD) : sProp 𝕄 := iprop(semVal (barCell c) 0 ∗ bigSep Finset.univ (fun o : Own => semVal (kcell (c, some o)) 0))

/-- The staging buffers before the body, -/
def stagesIn (c : Dev nD) : sProp 𝕄 := iprop(stag c cc0_stg0_0 (idsAt m ρ c) ∗ stag c cc0_stg1_0 (tabAt m ρ c) ∗ (∃ f, stag c cc0_stg2_0 f))
/-- and after it. -/
def stagesOut (c : Dev nD) : sProp 𝕄 := iprop(stag c cc0_stg0_0 (idsAt m ρ c) ∗ stag c cc0_stg1_0 (tabAt m ρ c) ∗ (∃ f, stag c cc0_stg2_0 (stored m ρ c f)))

omit [FloatOps F] in
/-- The landing slots named by the axis and the number. -/
theorem slots_ways (c : Dev nD) : iprop((bigSep Finset.univ fun k : Fin 3 => slotFree (F := F) (false, k) c) ∗ (bigSep Finset.univ fun k : Fin 3 => slotFree (F := F) (true, k) c))
    = (bigSep Finset.univ fun w : Way => slotFree (F := F) w c : sProp 𝕄) := (bigSep_own (I := Fin 3) fun w => slotFree (F := F) w c).symm

omit [FloatOps F] in
theorem slots_mates (c : Dev nD) : (bigSep Finset.univ fun w : Way => slotFree (F := F) w c : sProp 𝕄) = bigSep Finset.univ fun w : Way => slotFree (F := F) (mate w) c :=
  bigSep_univ_equiv mateE (fun w => slotFree (F := F) w c)

/-- The landing buffers cut into slots, -/
theorem open_zbuf (c : Dev nD) : any (F := F) c cc0_scratch1 ⊢ iprop((bigSep Finset.univ fun k : Fin 3 => slotFree (F := F) (false, k) c) ∗ slotRest (F := F) false c) :=
  slots_split (F := F) false c
theorem open_qbuf (c : Dev nD) : any (F := F) c cc0_scratch3 ⊢ iprop((bigSep Finset.univ fun k : Fin 3 => slotFree (F := F) (true, k) c) ∗ slotRest (F := F) true c) :=
  slots_split (F := F) true c
/-- and joined back. -/
theorem close_zbuf (c : Dev nD) : iprop((bigSep Finset.univ fun k : Fin 3 => slotFree (F := F) (false, k) c) ∗ slotRest (F := F) false c) ⊢ any (F := F) c cc0_scratch1 :=
  slots_join (F := F) false c fun _ => FloatOps.ofBits (F := F) .bf16 0
theorem close_qbuf (c : Dev nD) : iprop((bigSep Finset.univ fun k : Fin 3 => slotFree (F := F) (true, k) c) ∗ slotRest (F := F) true c) ⊢ any (F := F) c cc0_scratch3 :=
  slots_join (F := F) true c fun _ => FloatOps.ofBits (F := F) .bf16 0

/-- The body's precondition, the landing buffers' rests kept aside. -/
theorem enter (K : Dev nD × Cell → ℕ) (c : Dev nD) :
    iprop(records m ρ K ∗ linear c ∗ (cred (tallyAt (barCell c) () 6) ∗ bigSep Finset.univ (fun w : Way => cred (tallyAt (recvCell w c) () N))) ∗ levAts L lv
        ∗ owesE c (owedAt c 0) ∗ scratch c ∗ stagesIn m ρ c)
      ⊢ iprop(bodyIn m ρ K c ∗ slotRest (F := F) false c ∗ slotRest (F := F) true c) := by
  unfold linear payToks scratch stagesIn bodyIn
  simp only [bigSep_cells, bigSep_own (I := Way)]
  unfold sigTok due
  simp only [bigSep_sep', ← slots_mates, ← slots_ways]
  iintro ⟨HR, ⟨⟨HaB, Has, Har⟩, Hbt, Hst⟩, ⟨HcB, Hcr⟩, Hlev, HO, ⟨H0, H1, H2, H3⟩, Hg0, Hg1, Hg2⟩
  ihave H1' := (open_zbuf (F := F) c) $$ H1
  ihave H3' := (open_qbuf (F := F) c) $$ H3
  icases H1' with ⟨Hs1, Hr1⟩
  icases H3' with ⟨Hs3, Hr3⟩
  isplitr [Hr1 Hr3]
  · isplitl [HR]; · iexact HR
    isplitl [Hlev]; · iexact Hlev
    isplitl [HO]; · iexact HO
    isplitl [HcB]; · iexact HcB
    isplitl [HaB]; · iexact HaB
    isplitl [Hbt Hs1 Hs3]
    · isplitl [Hbt]; · iexact Hbt
      isplitl [Hs1] <;> iassumption
    isplitl [Hst]; · iexact Hst
    isplitl [Hcr Har]
    · isplitl [Hcr] <;> iassumption
    isplitl [Has]; · iexact Has
    isplitl [H0]; · iexact H0
    isplitl [H2]; · iexact H2
    isplitl [Hg0]; · iexact Hg0
    isplitl [Hg1]; · iexact Hg1
    iexact Hg2
  · isplitl [Hr1] <;> iassumption

/-- The source buffer whole again. -/
theorem src_join (b : Bool) (c : Dev nD) :
    iprop(srcPart m ρ b 0 c ∗ srcPart m ρ b 1 c ∗ srcPart m ρ b 2 c ∗ srcPart m ρ b 3 c) ⊢ (iprop(∃ f, (srcM b).view.loc (c : Thread nD τ) ↦{fullShare} f) : sProp 𝕄) := by
  rw [← bigSep_four (fun i => srcPart m ρ b i c), ← src_shares]
  cases b
  · simp only [srcM, owns_whole]; iintro H; iexists _; iexact H
  · simp only [srcM, owns_whole]; iintro H; iexists _; iexact H

/-- What the transfers leave: counters at zero, and both source buffers whole. -/
theorem sent_back (c : Dev nD) :
    iprop((bigSep Finset.univ fun w : Way => gotS m ρ w c) ∗ srcPart m ρ false 3 c ∗ srcPart m ρ true 3 c)
      ⊢ iprop((bigSep Finset.univ fun w : Way => semVal (sendCell w c) 0) ∗ any (F := F) c cc0_scratch0 ∗ any (F := F) c cc0_scratch2) := by
  unfold gotS
  rw [bigSep_sep', bigSep_ways (fun w => cellPay m ρ (some (false, w)) d₀ c)]
  unfold cellPay
  iintro ⟨⟨Hv, Ha0, Ha1, Ha2, Hb0, Hb1, Hb2⟩, Ha3, Hb3⟩
  isplitl [Hv]; · iexact Hv
  isplitl [Ha0 Ha1 Ha2 Ha3]
  · iapply (src_join m ρ false c)
    isplitl [Ha0]; · iexact Ha0
    isplitl [Ha1]; · iexact Ha1
    isplitl [Ha2]; · iexact Ha2
    iexact Ha3
  · iapply (src_join m ρ true c)
    isplitl [Hb0]; · iexact Hb0
    isplitl [Hb1]; · iexact Hb1
    isplitl [Hb2]; · iexact Hb2
    iexact Hb3

theorem got_free (w : Way) (c : Dev nD) : gotR m ρ w c ⊢ iprop(semVal (recvCell w c) 0 ∗ slotFree (F := F) w c) := by
  unfold gotR slotFree
  iintro ⟨H, Hs⟩
  isplitl [H]; · iexact H
  iexists _; iexact Hs

/-- What the landings leave: counters at zero, and both landing buffers whole. -/
theorem landed_back (c : Dev nD) :
    iprop((bigSep Finset.univ fun w : Way => gotR m ρ w c) ∗ slotRest (F := F) false c ∗ slotRest (F := F) true c)
      ⊢ iprop((bigSep Finset.univ fun w : Way => semVal (recvCell w c) 0) ∗ any (F := F) c cc0_scratch1 ∗ any (F := F) c cc0_scratch3) := by
  refine (sep_mono_left (bigSep_mono (Ψ := fun w : Way => iprop(semVal (recvCell w c) 0 ∗ slotFree (F := F) w c)) fun w _ => ?_)).trans ?_
  · exact got_free m ρ w c
  rw [bigSep_sep', ← slots_ways]
  iintro ⟨⟨Hv, Hs1, Hs3⟩, Hr1, Hr3⟩
  isplitl [Hv]; · iexact Hv
  isplitl [Hs1 Hr1]
  · iapply (close_zbuf (F := F) c)
    isplitl [Hs1] <;> iassumption
  · iapply (close_qbuf (F := F) c)
    isplitl [Hs3] <;> iassumption

/-- What the body's postcondition gives back. -/
theorem leave (c : Dev nD) :
    iprop(bodyOut m ρ c ∗ slotRest (F := F) false c ∗ slotRest (F := F) true c)
      ⊢ iprop((closed c ∗ scratch c) ∗ owesE c (owedAt c 12) ∗ stagesOut m ρ c) := by
  unfold bodyOut closed scratch stagesOut
  rw [bigSep_own (I := Way)]
  iintro ⟨⟨HO, HB, HS, HR, Ha, Hb, Hg⟩, Hr⟩
  ihave H1 := (sent_back m ρ c) $$ [HS Ha Hb]
  · isplitl [HS]; · iexact HS
    isplitl [Ha] <;> iassumption
  ihave H2 := (landed_back m ρ c) $$ [HR Hr]
  · isplitl [HR] <;> iassumption
  icases H1 with ⟨HS, H0, H2'⟩
  icases H2 with ⟨HR, H1, H3⟩
  isplitr [HO Hg]
  · isplitl [HB HS HR]
    · isplitl [HB]; · iexact HB
      isplitl [HS] <;> iassumption
    isplitl [H0]; · iexact H0
    isplitl [H1]; · iexact H1
    isplitl [H2'] <;> iassumption
  isplitl [HO] <;> iassumption

end Cert.LookupProof

end
-- ==== Proof.Rows.lean ====
/- What the result buffer holds after the four stores: every row, by the row block it lies in. -/
module

public import proofs.«01_k».proof.Proof.Body

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-- Row `j` of row block `q`. -/
def rowAt (q : Fin 4) (j : S128x512.Idx) : S512x512.Idx
  | ⟨0, _⟩ => ⟨128 * q.val + (j 0).val, by have h : (j 0).val < 128 := (j 0).isLt; have := q.isLt; show _ < 512; omega⟩
  | ⟨1, _⟩ => ⟨(j 1).val, (j 1).isLt⟩

/-- The row block an index lies in, and its place there. -/
def blkOf (i : S512x512.Idx) : Fin 4 := ⟨(i 0).val / 128, by have h : (i 0).val < 512 := (i 0).isLt; omega⟩
def inBlk (i : S512x512.Idx) : S128x512.Idx
  | ⟨0, _⟩ => ⟨(i 0).val % 128, Nat.mod_lt _ (by decide)⟩
  | ⟨1, _⟩ => ⟨(i 1).val, (i 1).isLt⟩

theorem rowAt_blk (i : S512x512.Idx) : rowAt (blkOf i) (inBlk i) = i := by
  funext a
  match a with
  | ⟨0, _⟩ => exact Fin.ext (Nat.div_add_mod (i 0).val 128)
  | ⟨1, _⟩ => rfl

theorem rowAt_inj {q q' : Fin 4} {j j' : S128x512.Idx} (h : rowAt q j = rowAt q' j') : q = q' := by
  have h0 : 128 * q.val + (j 0).val = 128 * q'.val + (j' 0).val := congrArg (fun i : S512x512.Idx => (i 0).val) h
  have h1 : (j 0).val < 128 := (j 0).isLt
  have h2 : (j' 0).val < 128 := (j' 0).isLt
  exact Fin.ext (by omega)

/-- The place of row `j` in a stored block of rows is row `j` of that row block. -/
theorem emb_rows (q : Fin 4) (inb : ∀ a, (![128 * q.val, 0] : Fin 2 → Nat) a + S128x512.size a ≤ S512x512.size a) (j : S128x512.Idx) :
    ((outM : Memref sig .tc .vmem S512x512 .f32).access (Rect.unit (s := S512x512) ![128 * q.val, 0] S128x512.size inb) : View sig .tc _ _ _).emb j = rowAt q j := by
  funext a
  match a with
  | ⟨0, _⟩ => exact Fin.ext (show 128 * q.val + 1 * (j 0).val = _ by rw [Nat.one_mul]; rfl)
  | ⟨1, _⟩ => exact Fin.ext (show 0 + 1 * (j 1).val = _ by rw [Nat.one_mul, Nat.zero_add]; rfl)

/-- One store of 128 rows: its own row block is replaced, the others stay. -/
theorem put_rowAt (off : Fin 2 → Nat) (inb : ∀ a, off a + S128x512.size a ≤ S512x512.size a) (q q' : Fin 4) (hoff : off = ![128 * q.val, 0])
    (f : Vec F S512x512 .f32) (X : FVec F S128x512 .f32) (j : S128x512.Idx) :
    put off inb f X (rowAt q' j) = if q' = q then X j else f (rowAt q' j) := by
  subst hoff
  unfold put
  by_cases h : q' = q
  · subst h
    rw [if_pos rfl, ← emb_rows q' inb j]
    exact View.write_emb_of_mem _ _ (Finset.mem_univ j)
  · rw [if_neg h]
    refine View.write_of_not_mem _ _ _ fun hm => ?_
    obtain ⟨x, -, hx⟩ := Finset.mem_map.mp hm
    exact h (rowAt_inj ((emb_rows q inb x).symm.trans hx)).symm

/-- The rows device `c` ends with in row block `q`. -/
def rowsAt (c : Dev nD) (q : Fin 4) : FVec F S128x512 .f32 :=
  if q = rowBlk c then redF m ρ c
  else if q = rowBlk (peer (true, 0) c) then wide (redB m ρ (peer (true, 0) c))
  else if q = rowBlk (peer (true, 1) c) then wide (redB m ρ (peer (true, 1) c))
  else wide (redB m ρ (peer (true, 2) c))

/-- The kernel's result on device `c`. -/
def outAt (c : Dev nD) : Vec F S512x512 .f32 := fun i => rowsAt m ρ c (blkOf i) (inBlk i)

/-- The four devices of a plane have the four row blocks. -/
theorem blk_cover : ∀ (c : Dev nD) (q : Fin 4), q = rowBlk c ∨ q = rowBlk (peer (true, 0) c) ∨ q = rowBlk (peer (true, 1) c) ∨ q = rowBlk (peer (true, 2) c) := by decide
theorem blk_01 : ∀ c : Dev nD, rowBlk c ≠ rowBlk (peer (true, 0) c) := by decide
theorem blk_02 : ∀ c : Dev nD, rowBlk c ≠ rowBlk (peer (true, 1) c) := by decide
theorem blk_03 : ∀ c : Dev nD, rowBlk c ≠ rowBlk (peer (true, 2) c) := by decide
theorem blk_12 : ∀ c : Dev nD, rowBlk (peer (true, 0) c) ≠ rowBlk (peer (true, 1) c) := by decide
theorem blk_13 : ∀ c : Dev nD, rowBlk (peer (true, 0) c) ≠ rowBlk (peer (true, 2) c) := by decide
theorem blk_23 : ∀ c : Dev nD, rowBlk (peer (true, 1) c) ≠ rowBlk (peer (true, 2) c) := by decide

/-- The four stores fill the result, whatever it held. -/
theorem stored_eq (c : Dev nD) (f : Vec F S512x512 .f32) : stored m ρ c f = outAt m ρ c := by
  funext i
  unfold outAt rowsAt
  generalize hq : blkOf i = q
  generalize hj : inBlk i = j
  rw [← rowAt_blk i, hq, hj]
  unfold stored stored3 stored2 stored1 stored0
  rw [put_rowAt _ _ (rowBlk (peer (true, 2) c)) q (off5_eq c), put_rowAt _ _ (rowBlk (peer (true, 1) c)) q (off4_eq c),
    put_rowAt _ _ (rowBlk (peer (true, 0) c)) q (off3_eq c), put_rowAt _ _ (rowBlk c) q (off2_eq c)]
  rcases blk_cover c q with h | h | h | h <;> subst h
  · rw [if_neg (blk_03 c), if_neg (blk_02 c), if_neg (blk_01 c), if_pos rfl, if_pos rfl]
  · rw [if_neg (blk_13 c), if_neg (blk_12 c), if_pos rfl, if_neg (blk_01 c).symm, if_pos rfl]
  · rw [if_neg (blk_23 c), if_pos rfl, if_neg (blk_02 c).symm, if_neg (blk_12 c).symm, if_pos rfl]
  · rw [if_pos rfl, if_neg (blk_03 c).symm, if_neg (blk_13 c).symm, if_neg (blk_23 c).symm]

end Cert.LookupProof

end
-- ==== Proof.Launch.lean ====
/- The kernel's run from the launch to its last state. -/
module

public import proofs.«01_k».proof.Proof.Enter
public import proofs.«01_k».proof.Proof.Rows
public import proofs.«01_k».proof.Proof.Gen.KernelIdeal.Launch
public import proofs.«01_k».proof.Proof.Gen.KernelIdeal.Points
public import Idealize.ShloMosaic.Lib.Pipeline.CollectiveSegs

@[expose] public section

noncomputable section

namespace Cert.LookupProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## The one point of the pipeline -/

def Φ₀ (c : Dev nD) : sProp 𝕄 := iprop(start m ρ c ∗ scratch c)
def Φ₁ (c : Dev nD) : sProp 𝕄 := iprop(closed (F := F) c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => idsAt m ρ c
    | ⟨1, _⟩ => tabAt m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owedAt c 0
    | ⟨_ + 1, _⟩ => owedAt c 12

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stag c b X := owns_whole _ _ _ _

abbrev t₀ : Fin cfg0.N := t0_0

/-- The staging buffers and the owing as the pipeline hands them to the body, -/
def handed (c : Dev nD) : sProp 𝕄 :=
  iprop(Φ₀ m ρ c ∗ (dats m ρ 0 c).owesAt () t₀.castSucc
    ∗ (∃ d, stag c cc0_stg0_0 ((dats m ρ 0 c).before (0 : Fin 3) t₀ d))
    ∗ (∃ d, stag c cc0_stg1_0 ((dats m ρ 0 c).before (1 : Fin 3) t₀ d))
    ∗ (∃ d, stag c cc0_stg2_0 ((dats m ρ 0 c).before (2 : Fin 3) t₀ d)))
/-- and as it takes them back. -/
def returned (c : Dev nD) : sProp 𝕄 :=
  iprop(Φ₁ c ∗ (dats m ρ 0 c).owesAt () t₀.succ
    ∗ stag c cc0_stg0_0 (idsAt m ρ c) ∗ stag c cc0_stg1_0 (tabAt m ρ c) ∗ stag c cc0_stg2_0 (outAt m ρ c))

theorem before_ids (c : Dev nD) (d) : (dats m ρ 0 c).before (0 : Fin 3) t₀ d = idsAt m ρ c := by
  unfold Dat.before; rw [if_pos (fetch0_0 t₀)]; rfl
theorem before_tab (c : Dev nD) (d) : (dats m ρ 0 c).before (1 : Fin 3) t₀ d = tabAt m ρ c := by
  unfold Dat.before; rw [if_pos (fetch0_1 t₀)]; rfl

theorem handed_in (c : Dev nD) : handed m ρ c ⊢ iprop(∃ K, bodyIn m ρ K c ∗ slotRest (F := F) false c ∗ slotRest (F := F) true c) := by
  unfold handed Φ₀ start G'
  simp only [before_ids, before_tab]
  iintro ⟨⟨⟨⟨%K, HR, Hlin⟩, Hc, Hlev⟩, Hscr⟩, Ho, ⟨%d0, H0⟩, ⟨%d1, H1⟩, ⟨%d2, H2⟩⟩
  unfold Dat.owesAt Pipeline.owesWithin
  icases Ho with ⟨%W, %hW, HO⟩
  iexists K
  iapply (enter m ρ K c)
  isplitl [HR]; · iexact HR
  isplitl [Hlin]; · iexact Hlin
  isplitl [Hc]; · iexact Hc
  isplitl [Hlev]; · iexact Hlev
  isplitl [HO]
  · unfold owesE; iexists W; iexact HO
  isplitl [Hscr]; · iexact Hscr
  unfold stagesIn
  isplitl [H0]; · iexact H0
  isplitl [H1]; · iexact H1
  iexists _; iexact H2

theorem returned_of (c : Dev nD) : iprop(bodyOut m ρ c ∗ slotRest (F := F) false c ∗ slotRest (F := F) true c) ⊢ returned m ρ c := by
  refine (leave m ρ c).trans ?_
  unfold returned Φ₁ stagesOut owesE
  simp only [stored_eq]
  iintro ⟨HΦ, ⟨%W, HO⟩, H0, H1, ⟨%f, H2⟩⟩
  isplitl [HΦ]; · iexact HΦ
  isplitl [HO]
  · unfold Dat.owesAt Pipeline.owesWithin
    iexists W
    isplitr; · ipureintro; exact fun _ _ => Or.inl trivial
    iexact HO
  isplitl [H0]; · iexact H0
  isplitl [H1] <;> iassumption

theorem sound (c : Dev nD) : handed m ρ c ⊢ wp frame (wpE (defs₀ (F := F)) 𝒱₀ (c : Thread nD τ) none) Set.univ (onBufs (cc0_body (F := F))) (fun _ => returned m ρ c) := by
  refine (handed_in m ρ c).trans ?_
  iintro ⟨%K, HI, HR⟩
  iapply (run_body m ρ K c fun _ => returned m ρ c)
  isplitl [HI]; · iexact HI
  iintro HO
  iapply (returned_of m ρ c)
  isplitl [HO] <;> iassumption

set_option maxRecDepth 4000 in
/-- The pipeline's demand on the body of device `c`. -/
theorem body_obligation (c : Dev nD) : BodyObligation (dats (F := F) m ρ 0 c) (defs₀ (F := F)) 𝒱₀ () Set.univ := fun t => by
  rw [fin_N0 t, show (Finset.univ : Finset (Fin cfg0.W)) = (Finset.univ : Finset (Fin 3)) from rfl, bigSep_W0, bigSep_W0]
  simp only [owns_stage]
  exact sound m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owedAt d 0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ closed scratch
  iintro ⟨⟨HB, HO⟩, Hr⟩
  isplitl [HB]; · iexact HB
  isplitl [HO]; · unfold Pipeline.ownSems0; iexact HO
  iexact Hr

/-- A semaphore of the pipeline's own is none of the kernel's. -/
theorem stage_sem (w : Fin cfg0.W) (s : Fin (cfg0.win w).nbuf) : ∀ k, csem k ≠ SemLoc.dma ((cfg0.win w).sem s) := by
  fin_cases w <;> fin_cases s <;> decide

theorem whichCell_none (s : SemLoc sig) (h : ∀ k, csem k ≠ s) : whichCell s = none := by
  unfold whichCell; rw [dif_neg fun ⟨k, hk⟩ => h k hk]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by rw [whichCell_none _ (stage_sem w s)]; rfl) 0
    · exact mayWait_stage c _ (by rw [whichCell_none _ (stage_sem w s)]; rfl) 12

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the sixteen devices, for any float values, from any memory with zero counters: every weakly fair execution of
    @main ends, and at the end each device's arrays hold the computed contents and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owedAt d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.LookupProof

end
-- ==== Proof.Spec.lean ====
/- The mathematics both programs compute: the table's rows at the ids, and how an id is split into a quarter of the table
   and a row of that quarter. No program is named here. -/
module

public import Idealize.ShloMosaic.Lib.ValueIdxCore
public import Idealize.ShloMosaic.PureOps.Ideal.Laws

@[expose] public section

noncomputable section

namespace Cert.LookupProof

open Idealize.ShloMosaic Idealize.ShloMosaic.ValueIdx

/-- A column of 512 ids, and a table of `n` rows of 512 entries. -/
abbrev IdCol : Type := IVec ⟨2, ![512, 1]⟩ 32
abbrev Table (n : ℕ) : Type := (⟨2, ![n, 512]⟩ : Shape).Idx → EReal

/-- Every id names a row of the table. -/
def InRange (I : IdCol) : Prop := ∀ r : Fin 512, (I (ix2 r 0)).toNat < 16384

/-- The table row position `r` asks for (the last one, should the id be too large). -/
def rowOf (I : IdCol) (r : Fin 512) : Fin 16384 := ⟨min (I (ix2 r 0)).toNat 16383, by omega⟩

theorem rowOf_val {I : IdCol} (h : InRange I) (r : Fin 512) : (rowOf I r).val = (I (ix2 r 0)).toNat := by
  have := h r
  show min _ _ = _; omega

/-- The embedding: row `r` of the result is the table's row at id `r`. -/
def looked (I : IdCol) (E : Table 16384) : Table 512 := fun i => E (ix2 (rowOf I (i 0)) (i 1))

/-- Position `k` of quarter `z` is the id `w` just when `k` is the word `w − 4096 z`. -/
theorem word_hit (w : BitVec 32) (z k : ℕ) (hw : w.toNat < 16384) (hz : z < 4) (hk : k < 4096) :
    BitVec.ofNat 32 k = w - BitVec.ofNat 32 z * 4096#32 ↔ w.toNat = 4096 * z + k := by
  rw [← BitVec.toNat_inj]
  simp only [BitVec.toNat_sub, BitVec.toNat_mul, BitVec.toNat_ofNat, Nat.reducePow, Nat.reduceMod]
  omega

/-- A row of a quarter of the table picked by an indicator of one position: that row if the id lies in the quarter, zero
    if it does not. Zero times an infinite entry is zero, so nothing is asked of the entries. -/
theorem pick_sum (w : BitVec 32) (z : ℕ) (hw : w.toNat < 16384) (hz : z < 4) (f : Fin 4096 → EReal) :
    (∑ k : Fin 4096, (if BitVec.ofNat 32 k.val = w - BitVec.ofNat 32 z * 4096#32 then (1 : EReal) else 0) * f k)
      = if w.toNat / 4096 = z then f ⟨w.toNat % 4096, Nat.mod_lt _ (by decide)⟩ else 0 := by
  have hit (k : Fin 4096) := word_hit w z k.val hw hz k.isLt
  by_cases h : w.toNat / 4096 = z
  · rw [if_pos h, Finset.sum_eq_single (⟨w.toNat % 4096, Nat.mod_lt _ (by decide)⟩ : Fin 4096)]
    · rw [if_pos ((hit _).mpr (by show _ = 4096 * z + w.toNat % 4096; omega)), one_mul]
    · intro k _ hk
      rw [if_neg, zero_mul]
      intro e
      have := (hit k).mp e
      exact hk (Fin.ext (by show k.val = w.toNat % 4096; have := k.isLt; omega))
    · exact fun h => absurd (Finset.mem_univ _) h
  · rw [if_neg h]
    refine Finset.sum_eq_zero fun k _ => ?_
    rw [if_neg, zero_mul]
    intro e
    have := (hit k).mp e
    have := k.isLt
    omega

/-- Summed over the four quarters, in any order, one of them gives the row and the others give zero. -/
theorem quarters_sum (q z0 z1 z2 z3 : ℕ) (x : EReal) (hq : q < 4) (h : ∀ z < 4, z = z0 ∨ z = z1 ∨ z = z2 ∨ z = z3)
    (d01 : z0 ≠ z1) (d02 : z0 ≠ z2) (d03 : z0 ≠ z3) (d12 : z1 ≠ z2) (d13 : z1 ≠ z3) (d23 : z2 ≠ z3) :
    (((if q = z0 then x else 0) + (if q = z1 then x else 0)) + (if q = z2 then x else 0)) + (if q = z3 then x else 0) = x := by
  rcases h q hq with rfl | rfl | rfl | rfl
  · rw [if_pos rfl, if_neg d01, if_neg d02, if_neg d03, add_zero, add_zero, add_zero]
  · rw [if_neg d01.symm, if_pos rfl, if_neg d12, if_neg d13, zero_add, add_zero, add_zero]
  · rw [if_neg d02.symm, if_neg d12.symm, if_pos rfl, if_neg d23, add_zero, add_zero, zero_add]
  · rw [if_neg d03.symm, if_neg d13.symm, if_neg d23.symm, if_pos rfl, add_zero, add_zero, zero_add]

end Cert.LookupProof

end
-- ==== Proof.Block.lean ====
/- What one device's product computes: the row block's rows found in its own quarter of the table, zero elsewhere. -/
module

public import proofs.«01_k».proof.Proof.Spec
public import proofs.«01_k».proof.Proof.Gen.KernelIdeal.Skeleton
public import Idealize.ShloMosaic.Lib.MatmulPlain
public import Idealize.ShloMosaic.Lib.Pipeline.Value
public import Idealize.ShloMosaic.Lib.WordCmp

@[expose] public section

noncomputable section

namespace Cert.LookupProof

open Cert.KernelIdeal Cert.KernelIdeal.Gen
open Idealize.ShloMosaic Idealize.ShloMosaic.ValueIdx

/-- The indicator of a word equality, as the kernel converts it to a float. -/
theorem indicator (a b : BitVec 32) : ((((IntOp.cmpi .eq a b).setWidth 32).toInt : ℝ) : EReal) = if a = b then 1 else 0 := by
  by_cases h : a = b
  · subst h; rw [if_pos rfl]; simp [IntOp.cmpi]
  · rw [if_neg h]; simp [IntOp.cmpi, beq_eq_false_iff_ne.mpr h]

/-- The product at `(r, d)`, for a device whose z coordinate is `z`: the quarter's row the id names, if it lies there. -/
theorem pay1_apply (z : ℕ) (hz : z < 4) (X : Vec Ideal S128x1 .i32) (T : Vec Ideal S4096x512 .bf16) (r : Fin 128) (d : Fin 512)
    (hw : (X (ix2 r 0)).toNat < 16384) :
    k0_pay1 (F := Ideal) (BitVec.ofNat 32 z) X T (ix2 r d)
      = if (X (ix2 r 0)).toNat / 4096 = z then T (ix2 ⟨(X (ix2 r 0)).toNat % 4096, Nat.mod_lt _ (by decide)⟩ d) else 0 := by
  rw [← pick_sum (X (ix2 r 0)) z hw hz (fun k => T (ix2 k d))]
  unfold k0_pay1
  simp only [shapeCast_self]
  rw [show dot_S128x4096_S4096x512_S128x512_1_0_0_1_n_n = DotDims.plain 128 4096 512 from rfl]
  refine (Ideal.matmul_plain_apply none _ _ _ r d).trans ?_
  rw [show (constant S128x512 .f32 0x00000000#32 : FVec Ideal S128x512 .f32) (ix2 r d) = 0 from Ideal.ofBits_zero_f32, zero_add]
  refine Finset.sum_congr rfl fun k _ => congrArg (· * T (ix2 k d)) ?_
  have hb : broadcastTo S128x4096 (subi X (broadcast S128x1 (Scalar.muli (BitVec.ofNat 32 z) 4096#32))) broadcasts_S128x1_S128x4096 (ix2 r k)
      = X (ix2 r 0) - BitVec.ofNat 32 z * 4096#32 := by
    refine (broadcastTo_apply _ _ (ix2 r k) (ix2 r 0) fun a => ?_).trans rfl
    match a with
    | ⟨0, _⟩ => rfl
    | ⟨1, _⟩ => rfl
  have hi : (iota Kind.tc S128x4096 32 [1] iota_S128x4096_d1_w32) (ix2 r k) = BitVec.ofNat 32 k.val :=
    congrArg (BitVec.ofNat 32) (show 0 * 4096 + k.val = k.val by omega)
  refine Eq.trans ?_ (indicator _ _)
  rw [← hi, ← hb]
  rfl

end Cert.LookupProof

end
-- ==== Proof.Whole.lean ====
/- What every device's result holds: the table's rows at the ids, whole. -/
module

public import proofs.«01_k».proof.Proof.Block
public import proofs.«01_k».proof.Proof.Rows
public import Idealize.ShloMosaic.Lib.Layout

@[expose] public section

noncomputable section

namespace Cert.LookupProof

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- A device's z coordinate. -/
def zOf (c : Dev nD) : ℕ := c.val % 4
theorem zOf_lt (c : Dev nD) : zOf c < 4 := Nat.mod_lt _ (by decide)
theorem zword_eq (c : Dev nD) : zword c = BitVec.ofNat 32 (zOf c) := by revert c; decide +kernel

/-- What the launch memory is taken to hold: the ids on every device, and on each its quarter of the table. -/
structure Holds (I : IdCol) (E : Table 16384) : Prop where
  ids : ∀ c : Dev nD, m ((c : Thread nD τ).loc main_arg0) = I
  tab : ∀ c : Dev nD, m ((c : Thread nD τ).loc main_arg1) = Layout.blockN ⟨2, ![4096, 512]⟩ ⟨2, ![16384, 512]⟩ (Layout.meshBlock [2, 2, 4] ![[2], []] c) E
  inr : InRange I

/-- The whole array's row that row `j` of row block `q` is. -/
def rowIx (q : Fin 4) (r : Fin 128) : Fin 512 := ⟨128 * q.val + r.val, by omega⟩

variable {m} {I : IdCol} {E : Table 16384} (H : Holds m I E)
include H

theorem idsAt_eq (c : Dev nD) : idsAt m ρ c = I := by
  refine Eq.trans ?_ (H.ids c)
  funext i
  refine congrArg (m ((c : Thread nD τ).loc main_arg0)) (funext fun a => Fin.ext ?_)
  match a with
  | ⟨0, _⟩ => exact (show 0 * 512 + 1 * (i 0).val = (i 0).val by omega)
  | ⟨1, _⟩ => exact (show 0 * 1 + 1 * (i 1).val = (i 1).val by omega)

/-- Row `k` of the device's quarter is row `4096 z + k` of the table. -/
theorem tabAt_apply (c : Dev nD) (k : Fin 4096) (d : Fin 512) :
    tabAt m ρ c (ix2 k d) = E (ix2 ⟨4096 * zOf c + k.val, by have := zOf_lt c; omega⟩ d) := by
  have h1 : tabAt m ρ c (ix2 k d) = m ((c : Thread nD τ).loc main_arg1) (ix2 k d) := by
    refine congrArg (m ((c : Thread nD τ).loc main_arg1)) (funext fun a => Fin.ext ?_)
    match a with
    | ⟨0, _⟩ => exact (show 0 * 4096 + 1 * k.val = k.val by omega)
    | ⟨1, _⟩ => exact (show 0 * 512 + 1 * d.val = d.val by omega)
  rw [h1, H.tab c]
  refine congrArg E (funext fun a => Fin.ext ?_)
  have hz : ∀ c : Dev nD, (Layout.meshLin [2, 2, 4] c.val [2]) = zOf c := by decide
  match a with
  | ⟨0, _⟩ => exact (congrArg (· * 4096 + k.val) (hz c)).trans (by show zOf c * 4096 + k.val = 4096 * zOf c + k.val; omega)
  | ⟨1, _⟩ => exact (show 0 * 512 + d.val = d.val by omega)

theorem blkIds_apply (c : Dev nD) (r : Fin 128) : blkIds m ρ c (ix2 r 0) = I (ix2 (rowIx (rowBlk c) r) 0) := by
  unfold blkIds
  rw [idsAt_eq ρ H c]
  refine congrArg I (funext fun a => Fin.ext ?_)
  have h0 : k0_off1 c 0 = 128 * (rowBlk c).val := congrFun (off1_eq c) 0
  have h1 : k0_off1 c 1 = 0 := congrFun (off1_eq c) 1
  match a with
  | ⟨0, _⟩ => exact (show k0_off1 c 0 + 1 * r.val = 128 * (rowBlk c).val + r.val by rw [h0, Nat.one_mul])
  | ⟨1, _⟩ => exact (show k0_off1 c 1 + 1 * 0 = 0 by rw [h1])

/-- A device's partial row: the result's row if the id lies in its quarter, zero if not. -/
theorem partF_apply (c : Dev nD) (r : Fin 128) (d : Fin 512) :
    partF m ρ c (ix2 r d) = if (rowOf I (rowIx (rowBlk c) r)).val / 4096 = zOf c then looked I E (ix2 (rowIx (rowBlk c) r) d) else 0 := by
  have hr := H.inr (rowIx (rowBlk c) r)
  unfold partF
  rw [zword_eq, pay1_apply (zOf c) (zOf_lt c) _ _ r d (by rw [blkIds_apply ρ H]; exact hr)]
  simp only [blkIds_apply ρ H, rowOf_val H.inr]
  by_cases h : (I (ix2 (rowIx (rowBlk c) r) 0)).toNat / 4096 = zOf c
  · rw [if_pos h, if_pos h, tabAt_apply ρ H]
    refine congrArg E (funext fun a => Fin.ext ?_)
    match a with
    | ⟨0, _⟩ =>
      refine Eq.trans ?_ (rowOf_val H.inr (rowIx (rowBlk c) r)).symm
      show 4096 * zOf c + (I (ix2 (rowIx (rowBlk c) r) 0)).toNat % 4096 = _
      omega
    | ⟨1, _⟩ => rfl
  · rw [if_neg h, if_neg h]

omit H in
theorem partB_eq (c : Dev nD) : partB m ρ c = partF m ρ c := by
  unfold partB partF k0_pay3 k0_pay2
  exact shapeCast_self _ _

omit H in
theorem same_blk : ∀ (k : Fin 3) (c : Dev nD), rowBlk (peer (mate (false, k)) c) = rowBlk c := by decide
omit H in
theorem z_cover : ∀ (c : Dev nD), ∀ z < 4, z = zOf c ∨ z = zOf (peer (mate (false, 0)) c) ∨ z = zOf (peer (mate (false, 1)) c) ∨ z = zOf (peer (mate (false, 2)) c) := by decide
omit H in
theorem z_apart : ∀ (c : Dev nD), zOf c ≠ zOf (peer (mate (false, 0)) c) ∧ zOf c ≠ zOf (peer (mate (false, 1)) c) ∧ zOf c ≠ zOf (peer (mate (false, 2)) c)
    ∧ zOf (peer (mate (false, 0)) c) ≠ zOf (peer (mate (false, 1)) c) ∧ zOf (peer (mate (false, 0)) c) ≠ zOf (peer (mate (false, 2)) c)
    ∧ zOf (peer (mate (false, 1)) c) ≠ zOf (peer (mate (false, 2)) c) := by decide

/-- The row block summed over z is the result's row block. -/
theorem redF_apply (c : Dev nD) (r : Fin 128) (d : Fin 512) : redF m ρ c (ix2 r d) = looked I E (ix2 (rowIx (rowBlk c) r) d) := by
  obtain ⟨h01, h02, h03, h12, h13, h23⟩ := z_apart c
  have hq : (rowOf I (rowIx (rowBlk c) r)).val / 4096 < 4 := by have := (rowOf I (rowIx (rowBlk c) r)).isLt; omega
  refine Eq.trans ?_ (quarters_sum _ _ _ _ _ (looked I E (ix2 (rowIx (rowBlk c) r) d)) hq (z_cover c) h01 h02 h03 h12 h13 h23)
  have e (k : Fin 3) : partB m ρ (peer (mate (false, k)) c) (ix2 r d)
      = if (rowOf I (rowIx (rowBlk c) r)).val / 4096 = zOf (peer (mate (false, k)) c) then looked I E (ix2 (rowIx (rowBlk c) r) d) else 0 := by
    rw [partB_eq, partF_apply ρ H, same_blk]
  rw [← partF_apply ρ H c r d, ← e 0, ← e 1, ← e 2]
  rfl

omit H in
theorem redB_eq (c : Dev nD) : wide (redB m ρ c) = redF m ρ c := by
  unfold wide redB
  rw [shapeCast_self]; rfl

/-- The rows a device ends with in row block `q` are the result's. -/
theorem rowsAt_apply (c : Dev nD) (q : Fin 4) (r : Fin 128) (d : Fin 512) : rowsAt m ρ c q (ix2 r d) = looked I E (ix2 (rowIx q r) d) := by
  unfold rowsAt
  simp only [redB_eq]
  by_cases h0 : q = rowBlk c
  · rw [if_pos h0, redF_apply ρ H, h0]
  by_cases h1 : q = rowBlk (peer (true, 0) c)
  · rw [if_neg h0, if_pos h1, redF_apply ρ H, h1]
  by_cases h2 : q = rowBlk (peer (true, 1) c)
  · rw [if_neg h0, if_neg h1, if_pos h2, redF_apply ρ H, h2]
  have h3 : q = rowBlk (peer (true, 2) c) := ((blk_cover c q).resolve_left h0).resolve_left h1 |>.resolve_left h2
  rw [if_neg h0, if_neg h1, if_neg h2, redF_apply ρ H, ← h3]

/-- Every device's result is the embedding, whole. -/
theorem outAt_eq (c : Dev nD) : outAt m ρ c = looked I E := by
  funext i
  unfold outAt
  rw [eq_ix2 (inBlk i)]
  refine (rowsAt_apply ρ H c (blkOf i) (inBlk i 0) (inBlk i 1)).trans ?_
  refine congrArg (looked I E) (funext fun a => Fin.ext ?_)
  match a with
  | ⟨0, _⟩ => exact Nat.div_add_mod (i 0).val 128
  | ⟨1, _⟩ => rfl

end Cert.LookupProof

end
-- ==== Proof.End.lean ====
/- The kernel's run with its end read back: the arguments as at launch, the result at the computed rows. -/
module

public import proofs.«01_k».proof.Proof.Launch
public import proofs.«01_k».proof.Proof.Whole
public import Idealize.ShloMosaic.Lib.Pipeline.ValueKit.Geometry

@[expose] public section

noncomputable section

namespace Cert.LookupProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The ids' array is as at launch. -/
theorem final_ids (c : Dev nD) : finalA m ρ c 0 = m ((c : Thread nD τ).loc main_arg0) := (dats m ρ 0 c).arrAt_in (0 : Fin 3) rfl _
/-- The table's array is as at launch. -/
theorem final_tab (c : Dev nD) : finalA m ρ c 1 = m ((c : Thread nD τ).loc main_arg1) := (dats m ρ 0 c).arrAt_in (1 : Fin 3) rfl _
/-- The result's array, written back once and whole, is what the body left in its buffer. -/
theorem final_out (c : Dev nD) : finalA m ρ c 2 = outAt m ρ c :=
  (dats m ρ 0 c).arrAt_eq_of_after_last (2 : Fin 3) t0_0 (by decide +kernel) (outAt m ρ c) (fun _ => rfl)

/-- Every execution ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c 0).trans (final_ids m ρ c), (h.1 c 1).trans (final_tab m ρ c)⟩, h.2⟩) (run_main m ρ)

/-- In exact arithmetic, from ids in range and the table laid over z: every execution ends with the embedding, whole, on
    every device, and the arguments unchanged. -/
theorem run_value (m : (ℓ : Loc nD τ sig) → Buf (Elt Ideal) ℓ) {I : IdCol} {E : Table 16384} (H : Holds m I E) :
    θ_run defs (onTc (τ := τ) (main (F := Ideal))) ⟨m, fun _ => 0, ρ⟩ (fun r => ∀ c : Dev nD,
      r.2.mem ((c.tc : Thread nD τ).loc main_v1) = looked I E
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c 2).trans ((final_out m ρ c).trans (outAt_eq ρ H c)),
    (h.1 c 0).trans (final_ids m ρ c), (h.1 c 1).trans (final_tab m ρ c)⟩) (run_main m ρ)

end Cert.LookupProof

end
-- ==== Proof.InRange.lean ====
/- What the precondition says: each id names a row of the table. -/
module

public import proofs.«01_k».proof.Proof.Spec
public import proofs.«01_k».proof.Pre_ids_in_range_KernelIdeal
public import Idealize.ShloMosaic.Lib.WordCmp

@[expose] public section

noncomputable section

namespace Cert.LookupProof

open Idealize.ShloMosaic Idealize.ShloMosaic.ValueIdx

/-- Two tests on a word, joined: both hold. -/
theorem in_range_word (w : BitVec 32) (e : IntOp.andi (IntOp.cmpi .sge w 0#32) (IntOp.cmpi .slt w 16384#32) = 1#1) : w.toNat < 16384 := by
  have both (p q : Bool) (e : IntOp.andi (BitVec.ofBool p) (BitVec.ofBool q) = 1#1) : p = true ∧ q = true := by
    revert e; cases p <;> cases q <;> decide
  obtain ⟨h0, h1⟩ := both _ _ e
  simp only [BitVec.sle_eq_decide, BitVec.slt_eq_decide, decide_eq_true_eq, BitVec.toInt_eq_toNat_cond, BitVec.toNat_ofNat,
    Nat.reducePow, Nat.reduceMod] at h0 h1
  omega

/-- All ones of the precondition: the ids are in range. -/
theorem in_range_of_pre [Cert.Pre_ids_in_range_KernelIdeal.Facts] {I : IdCol} {E : FVec Ideal ⟨2, ![4096, 512]⟩ .bf16}
    (h : Cert.Pre_ids_in_range_KernelIdeal.fn (F := Ideal) I E = fun _ => 1#1) : InRange I :=
  fun r => in_range_word _ (congrFun h (ix2 r 0))

end Cert.LookupProof

end
-- ==== Proof.RefValue.lean ====
/- What the reference computes: the table's rows at the ids. The wrap it makes of negative ids and the clamp of its gather
   are never taken, the ids being in range. -/
module

public import proofs.«01_k».proof.Proof.Spec
public import proofs.«01_k».proof.Proof.Gen.ReferenceIdeal
public import Idealize.ShloMosaic.Lib.Routing.Ops
public import Idealize.ShloMosaic.Lib.WordCmp

@[expose] public section

noncomputable section

namespace Cert.LookupProof

open Cert.ReferenceIdeal Cert.ReferenceIdeal.Gen
open Idealize.ShloMosaic Idealize.ShloMosaic.ValueIdx

/-- The start indices the reference's gather reads. -/
def starts (I : IdCol) : IVec S512x1 32 :=
  broadcastInDim S512x1 ![0] bcast_S512_S512x1_0
    (select (cmpi .slt (shapeCast S512 I shapeCasts_S512x1_S512) (broadcastInDim S512 ![] bcast_S_S512 (constantI S_ 32 0#32)))
      (addi (shapeCast S512 I shapeCasts_S512x1_S512) (broadcastInDim S512 ![] bcast_S_S512 (constantI S_ 32 16384#32)))
      (shapeCast S512 I shapeCasts_S512x1_S512))

/-- A word below 2³¹ is not negative. -/
theorem not_negative (w : BitVec 32) (h : w.toNat < 16384) : IntOp.cmpi .slt w 0#32 = 0#1 := by
  have e : w.slt 0#32 = false := by
    rw [BitVec.slt_eq_decide, decide_eq_false_iff_not, BitVec.toInt_eq_toNat_cond, BitVec.toInt_eq_toNat_cond]
    simp only [BitVec.toNat_ofNat, Nat.reducePow, Nat.reduceMod]
    omega
  show BitVec.ofBool _ = _
  rw [e]; rfl

/-- A word is the word of its number. -/
theorem word_back (w : BitVec 32) : BitVec.ofNat 32 w.toNat = w := by simp

/-- The start index of row `r` is its id. -/
theorem starts_apply {I : IdCol} (h : InRange I) (r : Fin 512) : starts I (ix2 r (0 : Fin 1)) = I (ix2 r 0) := by
  unfold starts
  refine (Routing.bcCol _ _ r).trans ?_
  have e : shapeCast S512 I shapeCasts_S512x1_S512 (ix1 r) = I (ix2 r 0) :=
    Routing.cast21 I shapeCasts_S512x1_S512 r 0 r (by show r.val = r.val * 1 + 0; omega)
  show Scalar.select (IntOp.cmpi .slt (shapeCast S512 I shapeCasts_S512x1_S512 (ix1 r)) 0#32) _ (shapeCast S512 I shapeCasts_S512x1_S512 (ix1 r)) = _
  rw [e, not_negative _ (h r)]
  rfl

/-- The reference's result is the embedding. -/
theorem gathered_eq {I : IdCol} (h : InRange I) (E : Table 16384) :
    (extf .f32 (Host.gather gather_S16384x512_S512x1_S512x512_1_0_n_n_0_1_1512 (E : FVec Ideal S16384x512 .bf16) (starts I)) bitsLt_bf16_f32 : FVec Ideal S512x512 .f32)
      = looked I E := by
  funext i
  show Host.gather gather_S16384x512_S512x1_S512x512_1_0_n_n_0_1_1512 E (starts I) i = _
  rw [eq_ix2 i]
  refine Routing.gather_row _ rfl rfl rfl rfl rfl E (starts I) (i 0) (i 1) (rowOf I (i 0)) ?_ (by decide)
  refine (starts_apply h (i 0)).trans ?_
  exact (word_back _).symm.trans (congrArg (BitVec.ofNat 32) (rowOf_val h (i 0)).symm)

end Cert.LookupProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.End
public import proofs.«01_k».proof.Proof.InRange
public import proofs.«01_k».proof.Proof.RefValue

@[expose] public section

noncomputable section

namespace Cert.Proof

open Idealize.ShloMosaic Idealize.SL.Sem Cert.LookupProof

/-- No operation was replaced, so the kernel and its ideal form have one body table. -/
theorem bodies_same : Cert.Kernel.defs₀ (F := Bits) = Cert.KernelIdeal.defs₀ (F := Bits) := by
  unfold Cert.Kernel.defs₀ Cert.KernelIdeal.defs₀
  refine congrArg Defs.onTc ?_
  funext ℓ x
  match ℓ, x with
  | ⟨0, _⟩, x => rfl

/-- The same with the pipelines' entries added. -/
theorem defs_same : Cert.Kernel.defs (F := Bits) = Cert.KernelIdeal.defs (F := Bits) :=
  congrArg (Pipeline.defs Cert.Kernel.pcfgs) bodies_same

/-- The kernel runs to its end, keeps its arguments and leaves every counter at zero: the ideal form's run, whose text is
    the kernel's, read at the machine's floats. -/
theorem frame_kernel : Cert.quiescent_Kernel := fun m ρ _ => by
  rw [defs_same]
  exact run_frame (F := Bits) m ρ

/-- The same of the ideal form, in exact arithmetic. -/
theorem frame_kernelIdeal : Cert.quiescent_KernelIdeal := fun m ρ _ => run_frame (F := Ideal) m ρ

/-- The reference runs to its end and keeps its arguments; it has no counters. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The facts the precondition's programs state. -/
theorem preFacts : Cert.Pre_ids_in_range_KernelIdeal.Facts := ⟨by decide⟩
theorem preFactsRef : Cert.Pre_ids_in_range_ReferenceIdeal.Facts := ⟨by decide⟩

/-- The equation: on ids in range, every device ends with the embedding the reference gathers. -/
theorem equation : Cert.algebraic_KernelIdeal_ReferenceIdeal_pre_ids_in_range_KernelIdeal (hPre_ids_in_range_KernelIdeal := preFacts) := by
  intro m g m' g' hpre hag
  have hI : InRange (m' (((0 : Dev Cert.ReferenceIdeal.nD).tc : Thread Cert.ReferenceIdeal.nD Cert.ReferenceIdeal.τ).loc Cert.ReferenceIdeal.main_arg0)) :=
    (hag 0).1 ▸ @in_range_of_pre preFacts _ _ (hpre 0)
  exact ⟨looked _ _, run_value g m ⟨fun c => (hag c).1, fun c => (hag c).2, hI⟩,
    (θ_run Cert.ReferenceIdeal.defs _ _).mono (fun _ h => ⟨(h 0).1.trans (gathered_eq hI _), (h 0).2⟩)
      (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, preFacts, preFactsRef,
    frame_kernel, frame_kernelIdeal, fun m ρ _ => frame_kernelIdeal m ρ trivial, frame_reference,
    fun m ρ _ => frame_reference m ρ trivial, trivial, equation⟩

end Cert.Proof

end
